-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S32x1024 : Shape := ⟨2, ![32, 1024]⟩
abbrev S16x32x1024 : Shape := ⟨3, ![16, 32, 1024]⟩
abbrev S16 : Shape := ⟨1, ![16]⟩
abbrev S_ : Shape := ⟨0, ![]⟩
abbrev S1024x1024 : Shape := ⟨2, ![1024, 1024]⟩
abbrev S1x32x1024 : Shape := ⟨3, ![1, 32, 1024]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S32x1024, .f32⟩
  | .local _ .vmem, ⟨0, _⟩ => ⟨S1024x512, .bf16⟩
  | .local _ .vmem, ⟨1, _⟩ => ⟨S512x1024, .bf16⟩
  | .local _ .vmem, ⟨2, _⟩ => ⟨S32x1024, .f32⟩
  | .local _ .vmem, ⟨3, _⟩ => ⟨S16x32x1024, .bf16⟩
  | .local _ .vmem, ⟨4, _⟩ => ⟨S16x32x1024, .bf16⟩
  | .local _ .vmem, ⟨5, _⟩ => ⟨S16x32x1024, .bf16⟩
  | .local _ .vmem, ⟨6, _⟩ => ⟨S16x32x1024, .bf16⟩
  | .local _ .vmem, ⟨7, _⟩ => ⟨S16x32x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_31 : BitVec 32 := 1#32
  let v72 : BitVec 32 := Scalar.muli v70 c1_i32_31
  let v73 : BitVec 32 := Scalar.addi c0_i32_32 v72
  v73.toNat
def k0_cond1 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_35 : BitVec 32 := 0#32
  let v76 : BitVec 1 := Scalar.cmpi .ne v69 c0_i32_35
  let v77 : BitVec 32 := Scalar.extui v76
  let c0_i32_36 : BitVec 32 := 0#32
  let v78 : BitVec 1 := Scalar.cmpi .ne v77 c0_i32_36
  v78

def k0_dev2 (d0 : Dev nD) : Nat :=
  let c0_i32_735 : BitVec 32 := 0#32
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_33 : BitVec 32 := 0#32
  let v74 : BitVec 32 := Scalar.xori v50 c0_i32_33
  let v75 : BitVec 32 := Scalar.addi c0_i32_34 v74
  let c1_i32_734 : BitVec 32 := 1#32
  let v827 : BitVec 32 := Scalar.muli v75 c1_i32_734
  let v828 : BitVec 32 := Scalar.addi c0_i32_735 v827
  v828.toNat
def k0_cond2 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c1_i32_39 : BitVec 32 := 1#32
  let v81 : BitVec 1 := Scalar.cmpi .ne v69 c1_i32_39
  let v82 : BitVec 32 := Scalar.extui v81
  let c0_i32_40 : BitVec 32 := 0#32
  let v83 : BitVec 1 := Scalar.cmpi .ne v82 c0_i32_40
  v83

def k0_dev3 (d0 : Dev nD) : Nat :=
  let c0_i32_735 : BitVec 32 := 0#32
  let c2_i32_38 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_37 : BitVec 32 := 1#32
  let v79 : BitVec 32 := Scalar.xori v50 c1_i32_37
  let v80 : BitVec 32 := Scalar.addi c2_i32_38 v79
  let c1_i32_734 : BitVec 32 := 1#32
  let v827 : BitVec 32 := Scalar.muli v80 c1_i32_734
  let v828 : BitVec 32 := Scalar.addi c0_i32_735 v827
  v828.toNat
def k0_cond3 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c2_i32_43 : BitVec 32 := 2#32
  let v86 : BitVec 1 := Scalar.cmpi .ne v69 c2_i32_43
  let v87 : BitVec 32 := Scalar.extui v86
  let c0_i32_44 : BitVec 32 := 0#32
  let v88 : BitVec 1 := Scalar.cmpi .ne v87 c0_i32_44
  v88

def k0_dev4 (d0 : Dev nD) : Nat :=
  let c0_i32_735 : BitVec 32 := 0#32
  let c4_i32_42 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_41 : BitVec 32 := 0#32
  let v84 : BitVec 32 := Scalar.xori v50 c0_i32_41
  let v85 : BitVec 32 := Scalar.addi c4_i32_42 v84
  let c1_i32_734 : BitVec 32 := 1#32
  let v827 : BitVec 32 := Scalar.muli v85 c1_i32_734
  let v828 : BitVec 32 := Scalar.addi c0_i32_735 v827
  v828.toNat
def k0_cond4 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c3_i32 : BitVec 32 := 3#32
  let v91 : BitVec 1 := Scalar.cmpi .ne v69 c3_i32
  let v92 : BitVec 32 := Scalar.extui v91
  let c0_i32_46 : BitVec 32 := 0#32
  let v93 : BitVec 1 := Scalar.cmpi .ne v92 c0_i32_46
  v93

def k0_dev5 (d0 : Dev nD) : Nat :=
  let c0_i32_735 : BitVec 32 := 0#32
  let c6_i32 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_45 : BitVec 32 := 1#32
  let v89 : BitVec 32 := Scalar.xori v50 c1_i32_45
  let v90 : BitVec 32 := Scalar.addi c6_i32 v89
  let c1_i32_734 : BitVec 32 := 1#32
  let v827 : BitVec 32 := Scalar.muli v90 c1_i32_734
  let v828 : BitVec 32 := Scalar.addi c0_i32_735 v827
  v828.toNat
def k0_cond5 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c4_i32_49 : BitVec 32 := 4#32
  let v96 : BitVec 1 := Scalar.cmpi .ne v69 c4_i32_49
  let v97 : BitVec 32 := Scalar.extui v96
  let c0_i32_50 : BitVec 32 := 0#32
  let v98 : BitVec 1 := Scalar.cmpi .ne v97 c0_i32_50
  v98

def k0_dev6 (d0 : Dev nD) : Nat :=
  let c0_i32_735 : BitVec 32 := 0#32
  let c8_i32_48 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_47 : BitVec 32 := 0#32
  let v94 : BitVec 32 := Scalar.xori v50 c0_i32_47
  let v95 : BitVec 32 := Scalar.addi c8_i32_48 v94
  let c1_i32_734 : BitVec 32 := 1#32
  let v827 : BitVec 32 := Scalar.muli v95 c1_i32_734
  let v828 : BitVec 32 := Scalar.addi c0_i32_735 v827
  v828.toNat
def k0_cond6 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c5_i32 : BitVec 32 := 5#32
  let v101 : BitVec 1 := Scalar.cmpi .ne v69 c5_i32
  let v102 : BitVec 32 := Scalar.extui v101
  let c0_i32_52 : BitVec 32 := 0#32
  let v103 : BitVec 1 := Scalar.cmpi .ne v102 c0_i32_52
  v103

def k0_dev7 (d0 : Dev nD) : Nat :=
  let c0_i32_735 : BitVec 32 := 0#32
  let c10_i32 : BitVec 32 := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_51 : BitVec 32 := 1#32
  let v99 : BitVec 32 := Scalar.xori v50 c1_i32_51
  let v100 : BitVec 32 := Scalar.addi c10_i32 v99
  let c1_i32_734 : BitVec 32 := 1#32
  let v827 : BitVec 32 := Scalar.muli v100 c1_i32_734
  let v828 : BitVec 32 := Scalar.addi c0_i32_735 v827
  v828.toNat
def k0_cond7 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c6_i32_54 : BitVec 32 := 6#32
  let v106 : BitVec 1 := Scalar.cmpi .ne v69 c6_i32_54
  let v107 : BitVec 32 := Scalar.extui v106
  let c0_i32_55 : BitVec 32 := 0#32
  let v108 : BitVec 1 := Scalar.cmpi .ne v107 c0_i32_55
  v108

def k0_dev8 (d0 : Dev nD) : Nat :=
  let c0_i32_735 : BitVec 32 := 0#32
  let c12_i32 : BitVec 32 := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_53 : BitVec 32 := 0#32
  let v104 : BitVec 32 := Scalar.xori v50 c0_i32_53
  let v105 : BitVec 32 := Scalar.addi c12_i32 v104
  let c1_i32_734 : BitVec 32 := 1#32
  let v827 : BitVec 32 := Scalar.muli v105 c1_i32_734
  let v828 : BitVec 32 := Scalar.addi c0_i32_735 v827
  v828.toNat
def k0_cond8 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c7_i32 : BitVec 32 := 7#32
  let v111 : BitVec 1 := Scalar.cmpi .ne v69 c7_i32
  let v112 : BitVec 32 := Scalar.extui v111
  let c0_i32_57 : BitVec 32 := 0#32
  let v113 : BitVec 1 := Scalar.cmpi .ne v112 c0_i32_57
  v113

def k0_dev9 (d0 : Dev nD) : Nat :=
  let c0_i32_735 : BitVec 32 := 0#32
  let c14_i32 : BitVec 32 := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_56 : BitVec 32 := 1#32
  let v109 : BitVec 32 := Scalar.xori v50 c1_i32_56
  let v110 : BitVec 32 := Scalar.addi c14_i32 v109
  let c1_i32_734 : BitVec 32 := 1#32
  let v827 : BitVec 32 := Scalar.muli v110 c1_i32_734
  let v828 : BitVec 32 := Scalar.addi c0_i32_735 v827
  v828.toNat
def k0_cond9 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c8_i32_59 : BitVec 32 := 8#32
  let v116 : BitVec 1 := Scalar.cmpi .ne v69 c8_i32_59
  let v117 : BitVec 32 := Scalar.extui v116
  let c0_i32_60 : BitVec 32 := 0#32
  let v118 : BitVec 1 := Scalar.cmpi .ne v117 c0_i32_60
  v118

def k0_dev10 (d0 : Dev nD) : Nat :=
  let c0_i32_735 : BitVec 32 := 0#32
  let c16_i32 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_58 : BitVec 32 := 0#32
  let v114 : BitVec 32 := Scalar.xori v50 c0_i32_58
  let v115 : BitVec 32 := Scalar.addi c16_i32 v114
  let c1_i32_734 : BitVec 32 := 1#32
  let v827 : BitVec 32 := Scalar.muli v115 c1_i32_734
  let v828 : BitVec 32 := Scalar.addi c0_i32_735 v827
  v828.toNat
def k0_cond10 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c9_i32 : BitVec 32 := 9#32
  let v121 : BitVec 1 := Scalar.cmpi .ne v69 c9_i32
  let v122 : BitVec 32 := Scalar.extui v121
  let c0_i32_62 : BitVec 32 := 0#32
  let v123 : BitVec 1 := Scalar.cmpi .ne v122 c0_i32_62
  v123

def k0_dev11 (d0 : Dev nD) : Nat :=
  let c0_i32_735 : BitVec 32 := 0#32
  let c18_i32 : BitVec 32 := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_61 : BitVec 32 := 1#32
  let v119 : BitVec 32 := Scalar.xori v50 c1_i32_61
  let v120 : BitVec 32 := Scalar.addi c18_i32 v119
  let c1_i32_734 : BitVec 32 := 1#32
  let v827 : BitVec 32 := Scalar.muli v120 c1_i32_734
  let v828 : BitVec 32 := Scalar.addi c0_i32_735 v827
  v828.toNat
def k0_cond11 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c10_i32_64 : BitVec 32 := 10#32
  let v126 : BitVec 1 := Scalar.cmpi .ne v69 c10_i32_64
  let v127 : BitVec 32 := Scalar.extui v126
  let c0_i32_65 : BitVec 32 := 0#32
  let v128 : BitVec 1 := Scalar.cmpi .ne v127 c0_i32_65
  v128

def k0_dev12 (d0 : Dev nD) : Nat :=
  let c0_i32_735 : BitVec 32 := 0#32
  let c20_i32 : BitVec 32 := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_63 : BitVec 32 := 0#32
  let v124 : BitVec 32 := Scalar.xori v50 c0_i32_63
  let v125 : BitVec 32 := Scalar.addi c20_i32 v124
  let c1_i32_734 : BitVec 32 := 1#32
  let v827 : BitVec 32 := Scalar.muli v125 c1_i32_734
  let v828 : BitVec 32 := Scalar.addi c0_i32_735 v827
  v828.toNat
def k0_cond12 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c11_i32 : BitVec 32 := 11#32
  let v131 : BitVec 1 := Scalar.cmpi .ne v69 c11_i32
  let v132 : BitVec 32 := Scalar.extui v131
  let c0_i32_67 : BitVec 32 := 0#32
  let v133 : BitVec 1 := Scalar.cmpi .ne v132 c0_i32_67
  v133

def k0_dev13 (d0 : Dev nD) : Nat :=
  let c0_i32_735 : BitVec 32 := 0#32
  let c22_i32 : BitVec 32 := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_66 : BitVec 32 := 1#32
  let v129 : BitVec 32 := Scalar.xori v50 c1_i32_66
  let v130 : BitVec 32 := Scalar.addi c22_i32 v129
  let c1_i32_734 : BitVec 32 := 1#32
  let v827 : BitVec 32 := Scalar.muli v130 c1_i32_734
  let v828 : BitVec 32 := Scalar.addi c0_i32_735 v827
  v828.toNat
def k0_cond13 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c12_i32_69 : BitVec 32 := 12#32
  let v136 : BitVec 1 := Scalar.cmpi .ne v69 c12_i32_69
  let v137 : BitVec 32 := Scalar.extui v136
  let c0_i32_70 : BitVec 32 := 0#32
  let v138 : BitVec 1 := Scalar.cmpi .ne v137 c0_i32_70
  v138

def k0_dev14 (d0 : Dev nD) : Nat :=
  let c0_i32_735 : BitVec 32 := 0#32
  let c24_i32 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_68 : BitVec 32 := 0#32
  let v134 : BitVec 32 := Scalar.xori v50 c0_i32_68
  let v135 : BitVec 32 := Scalar.addi c24_i32 v134
  let c1_i32_734 : BitVec 32 := 1#32
  let v827 : BitVec 32 := Scalar.muli v135 c1_i32_734
  let v828 : BitVec 32 := Scalar.addi c0_i32_735 v827
  v828.toNat
def k0_cond14 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c13_i32 : BitVec 32 := 13#32
  let v141 : BitVec 1 := Scalar.cmpi .ne v69 c13_i32
  let v142 : BitVec 32 := Scalar.extui v141
  let c0_i32_72 : BitVec 32 := 0#32
  let v143 : BitVec 1 := Scalar.cmpi .ne v142 c0_i32_72
  v143

def k0_dev15 (d0 : Dev nD) : Nat :=
  let c0_i32_735 : BitVec 32 := 0#32
  let c26_i32 : BitVec 32 := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_71 : BitVec 32 := 1#32
  let v139 : BitVec 32 := Scalar.xori v50 c1_i32_71
  let v140 : BitVec 32 := Scalar.addi c26_i32 v139
  let c1_i32_734 : BitVec 32 := 1#32
  let v827 : BitVec 32 := Scalar.muli v140 c1_i32_734
  let v828 : BitVec 32 := Scalar.addi c0_i32_735 v827
  v828.toNat
def k0_cond15 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c14_i32_74 : BitVec 32 := 14#32
  let v146 : BitVec 1 := Scalar.cmpi .ne v69 c14_i32_74
  let v147 : BitVec 32 := Scalar.extui v146
  let c0_i32_75 : BitVec 32 := 0#32
  let v148 : BitVec 1 := Scalar.cmpi .ne v147 c0_i32_75
  v148

def k0_dev16 (d0 : Dev nD) : Nat :=
  let c0_i32_735 : BitVec 32 := 0#32
  let c28_i32 : BitVec 32 := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_73 : BitVec 32 := 0#32
  let v144 : BitVec 32 := Scalar.xori v50 c0_i32_73
  let v145 : BitVec 32 := Scalar.addi c28_i32 v144
  let c1_i32_734 : BitVec 32 := 1#32
  let v827 : BitVec 32 := Scalar.muli v145 c1_i32_734
  let v828 : BitVec 32 := Scalar.addi c0_i32_735 v827
  v828.toNat
def k0_cond16 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c15_i32 : BitVec 32 := 15#32
  let v151 : BitVec 1 := Scalar.cmpi .ne v69 c15_i32
  let v152 : BitVec 32 := Scalar.extui v151
  let c0_i32_77 : BitVec 32 := 0#32
  let v153 : BitVec 1 := Scalar.cmpi .ne v152 c0_i32_77
  v153

def k0_dev17 (d0 : Dev nD) : Nat :=
  let c0_i32_735 : BitVec 32 := 0#32
  let c30_i32 : BitVec 32 := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_76 : BitVec 32 := 1#32
  let v149 : BitVec 32 := Scalar.xori v50 c1_i32_76
  let v150 : BitVec 32 := Scalar.addi c30_i32 v149
  let c1_i32_734 : BitVec 32 := 1#32
  let v827 : BitVec 32 := Scalar.muli v150 c1_i32_734
  let v828 : BitVec 32 := Scalar.addi c0_i32_735 v827
  v828.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_163 : BitVec 32 := 0#32
  let v288 : BitVec 1 := Scalar.cmpi .eq v50 c0_i32_163
  let v289 : BitVec 32 := Scalar.extui v288
  let c0_i32_164 : BitVec 32 := 0#32
  let v290 : BitVec 1 := Scalar.cmpi .ne v289 c0_i32_164
  v290

def k0_dev18 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_165 : BitVec 32 := 1#32
  let v291 : BitVec 1 := Scalar.cmpi .eq v50 c1_i32_165
  let v292 : BitVec 32 := Scalar.extui v291
  let c0_i32_166 : BitVec 32 := 0#32
  let v293 : BitVec 1 := Scalar.cmpi .ne v292 c0_i32_166
  v293

def k0_dev19 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_167 : BitVec 32 := 0#32
  let v294 : BitVec 1 := Scalar.cmpi .eq v50 c0_i32_167
  let v295 : BitVec 32 := Scalar.extui v294
  let c0_i32_168 : BitVec 32 := 0#32
  let v296 : BitVec 1 := Scalar.cmpi .ne v295 c0_i32_168
  v296

def k0_dev20 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_169 : BitVec 32 := 1#32
  let v297 : BitVec 1 := Scalar.cmpi .eq v50 c1_i32_169
  let v298 : BitVec 32 := Scalar.extui v297
  let c0_i32_170 : BitVec 32 := 0#32
  let v299 : BitVec 1 := Scalar.cmpi .ne v298 c0_i32_170
  v299

def k0_dev21 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_171 : BitVec 32 := 0#32
  let v300 : BitVec 1 := Scalar.cmpi .eq v50 c0_i32_171
  let v301 : BitVec 32 := Scalar.extui v300
  let c0_i32_172 : BitVec 32 := 0#32
  let v302 : BitVec 1 := Scalar.cmpi .ne v301 c0_i32_172
  v302

def k0_dev22 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_173 : BitVec 32 := 1#32
  let v303 : BitVec 1 := Scalar.cmpi .eq v50 c1_i32_173
  let v304 : BitVec 32 := Scalar.extui v303
  let c0_i32_174 : BitVec 32 := 0#32
  let v305 : BitVec 1 := Scalar.cmpi .ne v304 c0_i32_174
  v305

def k0_dev23 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_175 : BitVec 32 := 0#32
  let v306 : BitVec 1 := Scalar.cmpi .eq v50 c0_i32_175
  let v307 : BitVec 32 := Scalar.extui v306
  let c0_i32_176 : BitVec 32 := 0#32
  let v308 : BitVec 1 := Scalar.cmpi .ne v307 c0_i32_176
  v308

def k0_dev24 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_177 : BitVec 32 := 1#32
  let v309 : BitVec 1 := Scalar.cmpi .eq v50 c1_i32_177
  let v310 : BitVec 32 := Scalar.extui v309
  let c0_i32_178 : BitVec 32 := 0#32
  let v311 : BitVec 1 := Scalar.cmpi .ne v310 c0_i32_178
  v311

def k0_dev25 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_179 : BitVec 32 := 0#32
  let v312 : BitVec 1 := Scalar.cmpi .eq v50 c0_i32_179
  let v313 : BitVec 32 := Scalar.extui v312
  let c0_i32_180 : BitVec 32 := 0#32
  let v314 : BitVec 1 := Scalar.cmpi .ne v313 c0_i32_180
  v314

def k0_dev26 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_181 : BitVec 32 := 1#32
  let v315 : BitVec 1 := Scalar.cmpi .eq v50 c1_i32_181
  let v316 : BitVec 32 := Scalar.extui v315
  let c0_i32_182 : BitVec 32 := 0#32
  let v317 : BitVec 1 := Scalar.cmpi .ne v316 c0_i32_182
  v317

def k0_dev27 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_183 : BitVec 32 := 0#32
  let v318 : BitVec 1 := Scalar.cmpi .eq v50 c0_i32_183
  let v319 : BitVec 32 := Scalar.extui v318
  let c0_i32_184 : BitVec 32 := 0#32
  let v320 : BitVec 1 := Scalar.cmpi .ne v319 c0_i32_184
  v320

def k0_dev28 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_185 : BitVec 32 := 1#32
  let v321 : BitVec 1 := Scalar.cmpi .eq v50 c1_i32_185
  let v322 : BitVec 32 := Scalar.extui v321
  let c0_i32_186 : BitVec 32 := 0#32
  let v323 : BitVec 1 := Scalar.cmpi .ne v322 c0_i32_186
  v323

def k0_dev29 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_187 : BitVec 32 := 0#32
  let v324 : BitVec 1 := Scalar.cmpi .eq v50 c0_i32_187
  let v325 : BitVec 32 := Scalar.extui v324
  let c0_i32_188 : BitVec 32 := 0#32
  let v326 : BitVec 1 := Scalar.cmpi .ne v325 c0_i32_188
  v326

def k0_dev30 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_189 : BitVec 32 := 1#32
  let v327 : BitVec 1 := Scalar.cmpi .eq v50 c1_i32_189
  let v328 : BitVec 32 := Scalar.extui v327
  let c0_i32_190 : BitVec 32 := 0#32
  let v329 : BitVec 1 := Scalar.cmpi .ne v328 c0_i32_190
  v329

def k0_dev31 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_191 : BitVec 32 := 0#32
  let v330 : BitVec 1 := Scalar.cmpi .eq v50 c0_i32_191
  let v331 : BitVec 32 := Scalar.extui v330
  let c0_i32_192 : BitVec 32 := 0#32
  let v332 : BitVec 1 := Scalar.cmpi .ne v331 c0_i32_192
  v332

def k0_dev32 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_193 : BitVec 32 := 1#32
  let v333 : BitVec 1 := Scalar.cmpi .eq v50 c1_i32_193
  let v334 : BitVec 32 := Scalar.extui v333
  let c0_i32_194 : BitVec 32 := 0#32
  let v335 : BitVec 1 := Scalar.cmpi .ne v334 c0_i32_194
  v335

def k0_dev33 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_195 : BitVec 32 := 0#32
  let v336 : BitVec 1 := Scalar.cmpi .eq v50 c0_i32_195
  let v337 : BitVec 32 := Scalar.extui v336
  let c0_i32_196 : BitVec 32 := 0#32
  let v338 : BitVec 1 := Scalar.cmpi .ne v337 c0_i32_196
  v338

def k0_dev34 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_197 : BitVec 32 := 1#32
  let v339 : BitVec 1 := Scalar.cmpi .eq v50 c1_i32_197
  let v340 : BitVec 32 := Scalar.extui v339
  let c0_i32_198 : BitVec 32 := 0#32
  let v341 : BitVec 1 := Scalar.cmpi .ne v340 c0_i32_198
  v341

def k0_dev35 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_199 : BitVec 32 := 0#32
  let v342 : BitVec 1 := Scalar.cmpi .eq v50 c0_i32_199
  let v343 : BitVec 32 := Scalar.extui v342
  let c0_i32_200 : BitVec 32 := 0#32
  let v344 : BitVec 1 := Scalar.cmpi .ne v343 c0_i32_200
  v344

def k0_dev36 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_201 : BitVec 32 := 1#32
  let v345 : BitVec 1 := Scalar.cmpi .eq v50 c1_i32_201
  let v346 : BitVec 32 := Scalar.extui v345
  let c0_i32_202 : BitVec 32 := 0#32
  let v347 : BitVec 1 := Scalar.cmpi .ne v346 c0_i32_202
  v347

def k0_dev37 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_203 : BitVec 32 := 0#32
  let v348 : BitVec 1 := Scalar.cmpi .eq v50 c0_i32_203
  let v349 : BitVec 32 := Scalar.extui v348
  let c0_i32_204 : BitVec 32 := 0#32
  let v350 : BitVec 1 := Scalar.cmpi .ne v349 c0_i32_204
  v350

def k0_dev38 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_205 : BitVec 32 := 1#32
  let v351 : BitVec 1 := Scalar.cmpi .eq v50 c1_i32_205
  let v352 : BitVec 32 := Scalar.extui v351
  let c0_i32_206 : BitVec 32 := 0#32
  let v353 : BitVec 1 := Scalar.cmpi .ne v352 c0_i32_206
  v353

def k0_dev39 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_207 : BitVec 32 := 0#32
  let v354 : BitVec 1 := Scalar.cmpi .eq v50 c0_i32_207
  let v355 : BitVec 32 := Scalar.extui v354
  let c0_i32_208 : BitVec 32 := 0#32
  let v356 : BitVec 1 := Scalar.cmpi .ne v355 c0_i32_208
  v356

def k0_dev40 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_209 : BitVec 32 := 1#32
  let v357 : BitVec 1 := Scalar.cmpi .eq v50 c1_i32_209
  let v358 : BitVec 32 := Scalar.extui v357
  let c0_i32_210 : BitVec 32 := 0#32
  let v359 : BitVec 1 := Scalar.cmpi .ne v358 c0_i32_210
  v359

def k0_dev41 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_211 : BitVec 32 := 0#32
  let v360 : BitVec 1 := Scalar.cmpi .eq v50 c0_i32_211
  let v361 : BitVec 32 := Scalar.extui v360
  let c0_i32_212 : BitVec 32 := 0#32
  let v362 : BitVec 1 := Scalar.cmpi .ne v361 c0_i32_212
  v362

def k0_dev42 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_213 : BitVec 32 := 1#32
  let v363 : BitVec 1 := Scalar.cmpi .eq v50 c1_i32_213
  let v364 : BitVec 32 := Scalar.extui v363
  let c0_i32_214 : BitVec 32 := 0#32
  let v365 : BitVec 1 := Scalar.cmpi .ne v364 c0_i32_214
  v365

def k0_dev43 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_215 : BitVec 32 := 0#32
  let v366 : BitVec 1 := Scalar.cmpi .eq v50 c0_i32_215
  let v367 : BitVec 32 := Scalar.extui v366
  let c0_i32_216 : BitVec 32 := 0#32
  let v368 : BitVec 1 := Scalar.cmpi .ne v367 c0_i32_216
  v368

def k0_dev44 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_217 : BitVec 32 := 1#32
  let v369 : BitVec 1 := Scalar.cmpi .eq v50 c1_i32_217
  let v370 : BitVec 32 := Scalar.extui v369
  let c0_i32_218 : BitVec 32 := 0#32
  let v371 : BitVec 1 := Scalar.cmpi .ne v370 c0_i32_218
  v371

def k0_dev45 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_219 : BitVec 32 := 0#32
  let v372 : BitVec 1 := Scalar.cmpi .eq v50 c0_i32_219
  let v373 : BitVec 32 := Scalar.extui v372
  let c0_i32_220 : BitVec 32 := 0#32
  let v374 : BitVec 1 := Scalar.cmpi .ne v373 c0_i32_220
  v374

def k0_dev46 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_221 : BitVec 32 := 1#32
  let v375 : BitVec 1 := Scalar.cmpi .eq v50 c1_i32_221
  let v376 : BitVec 32 := Scalar.extui v375
  let c0_i32_222 : BitVec 32 := 0#32
  let v377 : BitVec 1 := Scalar.cmpi .ne v376 c0_i32_222
  v377

def k0_dev47 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_223 : BitVec 32 := 0#32
  let v378 : BitVec 1 := Scalar.cmpi .eq v50 c0_i32_223
  let v379 : BitVec 32 := Scalar.extui v378
  let c0_i32_224 : BitVec 32 := 0#32
  let v380 : BitVec 1 := Scalar.cmpi .ne v379 c0_i32_224
  v380

def k0_dev48 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_225 : BitVec 32 := 1#32
  let v381 : BitVec 1 := Scalar.cmpi .eq v50 c1_i32_225
  let v382 : BitVec 32 := Scalar.extui v381
  let c0_i32_226 : BitVec 32 := 0#32
  let v383 : BitVec 1 := Scalar.cmpi .ne v382 c0_i32_226
  v383

def k0_dev49 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v70 : BitVec 32 := Scalar.xori v2 c1_i32_29
  let c1_i32_735 : BitVec 32 := 1#32
  let v827 : BitVec 32 := Scalar.muli v70 c1_i32_735
  let v828 : BitVec 32 := Scalar.addi c0_i32_736 v827
  v828.toNat
def k0_cond51 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_243 : BitVec 32 := 0#32
  let v398 : BitVec 1 := Scalar.cmpi .ne v69 c0_i32_243
  let v399 : BitVec 32 := Scalar.extui v398
  let c0_i32_244 : BitVec 32 := 0#32
  let v400 : BitVec 1 := Scalar.cmpi .ne v399 c0_i32_244
  v400

def k0_off1 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off2 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev50 (d0 : Dev nD) : Nat :=
  let c0_i32_736 : BitVec 32 := 0#32
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_241 : BitVec 32 := 0#32
  let v396 : BitVec 32 := Scalar.xori v50 c0_i32_241
  let v397 : BitVec 32 := Scalar.addi c0_i32_242 v396
  let c1_i32_735 : BitVec 32 := 1#32
  let v827 : BitVec 32 := Scalar.muli v397 c1_i32_735
  let v828 : BitVec 32 := Scalar.addi c0_i32_736 v827
  v828.toNat
def k0_cond54 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c1_i32_261 : BitVec 32 := 1#32
  let v415 : BitVec 1 := Scalar.cmpi .ne v69 c1_i32_261
  let v416 : BitVec 32 := Scalar.extui v415
  let c0_i32_262 : BitVec 32 := 0#32
  let v417 : BitVec 1 := Scalar.cmpi .ne v416 c0_i32_262
  v417

def k0_off3 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off4 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev51 (d0 : Dev nD) : Nat :=
  let c0_i32_736 : BitVec 32 := 0#32
  let c2_i32_260 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_259 : BitVec 32 := 1#32
  let v413 : BitVec 32 := Scalar.xori v50 c1_i32_259
  let v414 : BitVec 32 := Scalar.addi c2_i32_260 v413
  let c1_i32_735 : BitVec 32 := 1#32
  let v827 : BitVec 32 := Scalar.muli v414 c1_i32_735
  let v828 : BitVec 32 := Scalar.addi c0_i32_736 v827
  v828.toNat
def k0_cond57 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c2_i32_279 : BitVec 32 := 2#32
  let v432 : BitVec 1 := Scalar.cmpi .ne v69 c2_i32_279
  let v433 : BitVec 32 := Scalar.extui v432
  let c0_i32_280 : BitVec 32 := 0#32
  let v434 : BitVec 1 := Scalar.cmpi .ne v433 c0_i32_280
  v434

def k0_off5 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off6 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev52 (d0 : Dev nD) : Nat :=
  let c0_i32_736 : BitVec 32 := 0#32
  let c4_i32_278 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_277 : BitVec 32 := 0#32
  let v430 : BitVec 32 := Scalar.xori v50 c0_i32_277
  let v431 : BitVec 32 := Scalar.addi c4_i32_278 v430
  let c1_i32_735 : BitVec 32 := 1#32
  let v827 : BitVec 32 := Scalar.muli v431 c1_i32_735
  let v828 : BitVec 32 := Scalar.addi c0_i32_736 v827
  v828.toNat
def k0_cond60 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c3_i32_297 : BitVec 32 := 3#32
  let v449 : BitVec 1 := Scalar.cmpi .ne v69 c3_i32_297
  let v450 : BitVec 32 := Scalar.extui v449
  let c0_i32_298 : BitVec 32 := 0#32
  let v451 : BitVec 1 := Scalar.cmpi .ne v450 c0_i32_298
  v451

def k0_off7 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off8 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev53 (d0 : Dev nD) : Nat :=
  let c0_i32_736 : BitVec 32 := 0#32
  let c6_i32_296 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_295 : BitVec 32 := 1#32
  let v447 : BitVec 32 := Scalar.xori v50 c1_i32_295
  let v448 : BitVec 32 := Scalar.addi c6_i32_296 v447
  let c1_i32_735 : BitVec 32 := 1#32
  let v827 : BitVec 32 := Scalar.muli v448 c1_i32_735
  let v828 : BitVec 32 := Scalar.addi c0_i32_736 v827
  v828.toNat
def k0_cond63 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c4_i32_315 : BitVec 32 := 4#32
  let v466 : BitVec 1 := Scalar.cmpi .ne v69 c4_i32_315
  let v467 : BitVec 32 := Scalar.extui v466
  let c0_i32_316 : BitVec 32 := 0#32
  let v468 : BitVec 1 := Scalar.cmpi .ne v467 c0_i32_316
  v468

def k0_off9 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off10 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev54 (d0 : Dev nD) : Nat :=
  let c0_i32_736 : BitVec 32 := 0#32
  let c8_i32_314 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_313 : BitVec 32 := 0#32
  let v464 : BitVec 32 := Scalar.xori v50 c0_i32_313
  let v465 : BitVec 32 := Scalar.addi c8_i32_314 v464
  let c1_i32_735 : BitVec 32 := 1#32
  let v827 : BitVec 32 := Scalar.muli v465 c1_i32_735
  let v828 : BitVec 32 := Scalar.addi c0_i32_736 v827
  v828.toNat
def k0_cond66 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c5_i32_333 : BitVec 32 := 5#32
  let v483 : BitVec 1 := Scalar.cmpi .ne v69 c5_i32_333
  let v484 : BitVec 32 := Scalar.extui v483
  let c0_i32_334 : BitVec 32 := 0#32
  let v485 : BitVec 1 := Scalar.cmpi .ne v484 c0_i32_334
  v485

def k0_off11 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off12 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev55 (d0 : Dev nD) : Nat :=
  let c0_i32_736 : BitVec 32 := 0#32
  let c10_i32_332 : BitVec 32 := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_331 : BitVec 32 := 1#32
  let v481 : BitVec 32 := Scalar.xori v50 c1_i32_331
  let v482 : BitVec 32 := Scalar.addi c10_i32_332 v481
  let c1_i32_735 : BitVec 32 := 1#32
  let v827 : BitVec 32 := Scalar.muli v482 c1_i32_735
  let v828 : BitVec 32 := Scalar.addi c0_i32_736 v827
  v828.toNat
def k0_cond69 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c6_i32_351 : BitVec 32 := 6#32
  let v500 : BitVec 1 := Scalar.cmpi .ne v69 c6_i32_351
  let v501 : BitVec 32 := Scalar.extui v500
  let c0_i32_352 : BitVec 32 := 0#32
  let v502 : BitVec 1 := Scalar.cmpi .ne v501 c0_i32_352
  v502

def k0_off13 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off14 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev56 (d0 : Dev nD) : Nat :=
  let c0_i32_736 : BitVec 32 := 0#32
  let c12_i32_350 : BitVec 32 := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_349 : BitVec 32 := 0#32
  let v498 : BitVec 32 := Scalar.xori v50 c0_i32_349
  let v499 : BitVec 32 := Scalar.addi c12_i32_350 v498
  let c1_i32_735 : BitVec 32 := 1#32
  let v827 : BitVec 32 := Scalar.muli v499 c1_i32_735
  let v828 : BitVec 32 := Scalar.addi c0_i32_736 v827
  v828.toNat
def k0_cond72 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c7_i32_369 : BitVec 32 := 7#32
  let v517 : BitVec 1 := Scalar.cmpi .ne v69 c7_i32_369
  let v518 : BitVec 32 := Scalar.extui v517
  let c0_i32_370 : BitVec 32 := 0#32
  let v519 : BitVec 1 := Scalar.cmpi .ne v518 c0_i32_370
  v519

def k0_off15 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off16 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev57 (d0 : Dev nD) : Nat :=
  let c0_i32_736 : BitVec 32 := 0#32
  let c14_i32_368 : BitVec 32 := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_367 : BitVec 32 := 1#32
  let v515 : BitVec 32 := Scalar.xori v50 c1_i32_367
  let v516 : BitVec 32 := Scalar.addi c14_i32_368 v515
  let c1_i32_735 : BitVec 32 := 1#32
  let v827 : BitVec 32 := Scalar.muli v516 c1_i32_735
  let v828 : BitVec 32 := Scalar.addi c0_i32_736 v827
  v828.toNat
def k0_cond75 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c8_i32_387 : BitVec 32 := 8#32
  let v534 : BitVec 1 := Scalar.cmpi .ne v69 c8_i32_387
  let v535 : BitVec 32 := Scalar.extui v534
  let c0_i32_388 : BitVec 32 := 0#32
  let v536 : BitVec 1 := Scalar.cmpi .ne v535 c0_i32_388
  v536

def k0_off17 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off18 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev58 (d0 : Dev nD) : Nat :=
  let c0_i32_736 : BitVec 32 := 0#32
  let c16_i32_386 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_385 : BitVec 32 := 0#32
  let v532 : BitVec 32 := Scalar.xori v50 c0_i32_385
  let v533 : BitVec 32 := Scalar.addi c16_i32_386 v532
  let c1_i32_735 : BitVec 32 := 1#32
  let v827 : BitVec 32 := Scalar.muli v533 c1_i32_735
  let v828 : BitVec 32 := Scalar.addi c0_i32_736 v827
  v828.toNat
def k0_cond78 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c9_i32_405 : BitVec 32 := 9#32
  let v551 : BitVec 1 := Scalar.cmpi .ne v69 c9_i32_405
  let v552 : BitVec 32 := Scalar.extui v551
  let c0_i32_406 : BitVec 32 := 0#32
  let v553 : BitVec 1 := Scalar.cmpi .ne v552 c0_i32_406
  v553

def k0_off19 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off20 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev59 (d0 : Dev nD) : Nat :=
  let c0_i32_736 : BitVec 32 := 0#32
  let c18_i32_404 : BitVec 32 := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_403 : BitVec 32 := 1#32
  let v549 : BitVec 32 := Scalar.xori v50 c1_i32_403
  let v550 : BitVec 32 := Scalar.addi c18_i32_404 v549
  let c1_i32_735 : BitVec 32 := 1#32
  let v827 : BitVec 32 := Scalar.muli v550 c1_i32_735
  let v828 : BitVec 32 := Scalar.addi c0_i32_736 v827
  v828.toNat
def k0_cond81 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c10_i32_423 : BitVec 32 := 10#32
  let v568 : BitVec 1 := Scalar.cmpi .ne v69 c10_i32_423
  let v569 : BitVec 32 := Scalar.extui v568
  let c0_i32_424 : BitVec 32 := 0#32
  let v570 : BitVec 1 := Scalar.cmpi .ne v569 c0_i32_424
  v570

def k0_off21 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off22 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev60 (d0 : Dev nD) : Nat :=
  let c0_i32_736 : BitVec 32 := 0#32
  let c20_i32_422 : BitVec 32 := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_421 : BitVec 32 := 0#32
  let v566 : BitVec 32 := Scalar.xori v50 c0_i32_421
  let v567 : BitVec 32 := Scalar.addi c20_i32_422 v566
  let c1_i32_735 : BitVec 32 := 1#32
  let v827 : BitVec 32 := Scalar.muli v567 c1_i32_735
  let v828 : BitVec 32 := Scalar.addi c0_i32_736 v827
  v828.toNat
def k0_cond84 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c11_i32_441 : BitVec 32 := 11#32
  let v585 : BitVec 1 := Scalar.cmpi .ne v69 c11_i32_441
  let v586 : BitVec 32 := Scalar.extui v585
  let c0_i32_442 : BitVec 32 := 0#32
  let v587 : BitVec 1 := Scalar.cmpi .ne v586 c0_i32_442
  v587

def k0_off23 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off24 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev61 (d0 : Dev nD) : Nat :=
  let c0_i32_736 : BitVec 32 := 0#32
  let c22_i32_440 : BitVec 32 := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_439 : BitVec 32 := 1#32
  let v583 : BitVec 32 := Scalar.xori v50 c1_i32_439
  let v584 : BitVec 32 := Scalar.addi c22_i32_440 v583
  let c1_i32_735 : BitVec 32 := 1#32
  let v827 : BitVec 32 := Scalar.muli v584 c1_i32_735
  let v828 : BitVec 32 := Scalar.addi c0_i32_736 v827
  v828.toNat
def k0_cond87 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c12_i32_459 : BitVec 32 := 12#32
  let v602 : BitVec 1 := Scalar.cmpi .ne v69 c12_i32_459
  let v603 : BitVec 32 := Scalar.extui v602
  let c0_i32_460 : BitVec 32 := 0#32
  let v604 : BitVec 1 := Scalar.cmpi .ne v603 c0_i32_460
  v604

def k0_off25 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off26 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev62 (d0 : Dev nD) : Nat :=
  let c0_i32_736 : BitVec 32 := 0#32
  let c24_i32_458 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_457 : BitVec 32 := 0#32
  let v600 : BitVec 32 := Scalar.xori v50 c0_i32_457
  let v601 : BitVec 32 := Scalar.addi c24_i32_458 v600
  let c1_i32_735 : BitVec 32 := 1#32
  let v827 : BitVec 32 := Scalar.muli v601 c1_i32_735
  let v828 : BitVec 32 := Scalar.addi c0_i32_736 v827
  v828.toNat
def k0_cond90 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c13_i32_477 : BitVec 32 := 13#32
  let v619 : BitVec 1 := Scalar.cmpi .ne v69 c13_i32_477
  let v620 : BitVec 32 := Scalar.extui v619
  let c0_i32_478 : BitVec 32 := 0#32
  let v621 : BitVec 1 := Scalar.cmpi .ne v620 c0_i32_478
  v621

def k0_off27 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off28 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev63 (d0 : Dev nD) : Nat :=
  let c0_i32_736 : BitVec 32 := 0#32
  let c26_i32_476 : BitVec 32 := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_475 : BitVec 32 := 1#32
  let v617 : BitVec 32 := Scalar.xori v50 c1_i32_475
  let v618 : BitVec 32 := Scalar.addi c26_i32_476 v617
  let c1_i32_735 : BitVec 32 := 1#32
  let v827 : BitVec 32 := Scalar.muli v618 c1_i32_735
  let v828 : BitVec 32 := Scalar.addi c0_i32_736 v827
  v828.toNat
def k0_cond93 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c14_i32_495 : BitVec 32 := 14#32
  let v636 : BitVec 1 := Scalar.cmpi .ne v69 c14_i32_495
  let v637 : BitVec 32 := Scalar.extui v636
  let c0_i32_496 : BitVec 32 := 0#32
  let v638 : BitVec 1 := Scalar.cmpi .ne v637 c0_i32_496
  v638

def k0_off29 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off30 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev64 (d0 : Dev nD) : Nat :=
  let c0_i32_736 : BitVec 32 := 0#32
  let c28_i32_494 : BitVec 32 := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c0_i32_493 : BitVec 32 := 0#32
  let v634 : BitVec 32 := Scalar.xori v50 c0_i32_493
  let v635 : BitVec 32 := Scalar.addi c28_i32_494 v634
  let c1_i32_735 : BitVec 32 := 1#32
  let v827 : BitVec 32 := Scalar.muli v635 c1_i32_735
  let v828 : BitVec 32 := Scalar.addi c0_i32_736 v827
  v828.toNat
def k0_cond96 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c15_i32_513 : BitVec 32 := 15#32
  let v653 : BitVec 1 := Scalar.cmpi .ne v69 c15_i32_513
  let v654 : BitVec 32 := Scalar.extui v653
  let c0_i32_514 : BitVec 32 := 0#32
  let v655 : BitVec 1 := Scalar.cmpi .ne v654 c0_i32_514
  v655

def k0_off31 (d0 : Dev nD) : Fin 1 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  ![v69.toNat]
def k0_off32 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_737 : BitVec 32 := 0#32
  let c0_i32_738 : BitVec 32 := 0#32
  ![v69.toNat, 0, 0]
def k0_dev65 (d0 : Dev nD) : Nat :=
  let c0_i32_736 : BitVec 32 := 0#32
  let c30_i32_512 : BitVec 32 := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let c2_i32_16 : BitVec 32 := 2#32
  let c0_i32_17 : BitVec 32 := 0#32
  let v40 : BitVec 1 := Scalar.cmpi .eq c2_i32_16 c0_i32_17
  let c1_i32_18 : BitVec 32 := 1#32
  let v41 : BitVec 32 := Scalar.select v40 c1_i32_18 c2_i32_16
  let v42 : BitVec 32 := Scalar.remsi v29 v41
  let c0_i32_20 : BitVec 32 := 0#32
  let v44 : BitVec 1 := Scalar.cmpi .slt v42 c0_i32_20
  let c0_i32_21 : BitVec 32 := 0#32
  let v45 : BitVec 1 := Scalar.cmpi .slt v41 c0_i32_21
  let v46 : BitVec 1 := Scalar.xori v44 v45
  let c0_i32_19 : BitVec 32 := 0#32
  let v43 : BitVec 1 := Scalar.cmpi .ne v42 c0_i32_19
  let v47 : BitVec 1 := Scalar.andi v46 v43
  let v48 : BitVec 32 := Scalar.addi v42 v41
  let v49 : BitVec 32 := Scalar.select v47 v48 v42
  let v50 : BitVec 32 := Scalar.xori v39 v49
  let c1_i32_511 : BitVec 32 := 1#32
  let v651 : BitVec 32 := Scalar.xori v50 c1_i32_511
  let v652 : BitVec 32 := Scalar.addi c30_i32_512 v651
  let c1_i32_735 : BitVec 32 := 1#32
  let v827 : BitVec 32 := Scalar.muli v652 c1_i32_735
  let v828 : BitVec 32 := Scalar.addi c0_i32_736 v827
  v828.toNat
def k0_off33 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let v656 : Index := Scalar.indexCast v69
  let c0_515 : Index := 0#32
  let c0_516 : Index := 0#32
  ![v656.toNat, 0, 0]
def k0_cond113 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_701 : BitVec 32 := 0#32
  let v779 : BitVec 1 := Scalar.cmpi .ne v69 c0_i32_701
  let v780 : BitVec 32 := Scalar.extui v779
  let c0_i32_702 : BitVec 32 := 0#32
  let v781 : BitVec 1 := Scalar.cmpi .ne v780 c0_i32_702
  v781

def k0_off34 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond114 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c1_i32_703 : BitVec 32 := 1#32
  let v782 : BitVec 1 := Scalar.cmpi .ne v69 c1_i32_703
  let v783 : BitVec 32 := Scalar.extui v782
  let c0_i32_704 : BitVec 32 := 0#32
  let v784 : BitVec 1 := Scalar.cmpi .ne v783 c0_i32_704
  v784

def k0_off35 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond115 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c2_i32_705 : BitVec 32 := 2#32
  let v785 : BitVec 1 := Scalar.cmpi .ne v69 c2_i32_705
  let v786 : BitVec 32 := Scalar.extui v785
  let c0_i32_706 : BitVec 32 := 0#32
  let v787 : BitVec 1 := Scalar.cmpi .ne v786 c0_i32_706
  v787

def k0_off36 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond116 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c3_i32_707 : BitVec 32 := 3#32
  let v788 : BitVec 1 := Scalar.cmpi .ne v69 c3_i32_707
  let v789 : BitVec 32 := Scalar.extui v788
  let c0_i32_708 : BitVec 32 := 0#32
  let v790 : BitVec 1 := Scalar.cmpi .ne v789 c0_i32_708
  v790

def k0_off37 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond117 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c4_i32_709 : BitVec 32 := 4#32
  let v791 : BitVec 1 := Scalar.cmpi .ne v69 c4_i32_709
  let v792 : BitVec 32 := Scalar.extui v791
  let c0_i32_710 : BitVec 32 := 0#32
  let v793 : BitVec 1 := Scalar.cmpi .ne v792 c0_i32_710
  v793

def k0_off38 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond118 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c5_i32_711 : BitVec 32 := 5#32
  let v794 : BitVec 1 := Scalar.cmpi .ne v69 c5_i32_711
  let v795 : BitVec 32 := Scalar.extui v794
  let c0_i32_712 : BitVec 32 := 0#32
  let v796 : BitVec 1 := Scalar.cmpi .ne v795 c0_i32_712
  v796

def k0_off39 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond119 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c6_i32_713 : BitVec 32 := 6#32
  let v797 : BitVec 1 := Scalar.cmpi .ne v69 c6_i32_713
  let v798 : BitVec 32 := Scalar.extui v797
  let c0_i32_714 : BitVec 32 := 0#32
  let v799 : BitVec 1 := Scalar.cmpi .ne v798 c0_i32_714
  v799

def k0_off40 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond120 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c7_i32_715 : BitVec 32 := 7#32
  let v800 : BitVec 1 := Scalar.cmpi .ne v69 c7_i32_715
  let v801 : BitVec 32 := Scalar.extui v800
  let c0_i32_716 : BitVec 32 := 0#32
  let v802 : BitVec 1 := Scalar.cmpi .ne v801 c0_i32_716
  v802

def k0_off41 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond121 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c8_i32_717 : BitVec 32 := 8#32
  let v803 : BitVec 1 := Scalar.cmpi .ne v69 c8_i32_717
  let v804 : BitVec 32 := Scalar.extui v803
  let c0_i32_718 : BitVec 32 := 0#32
  let v805 : BitVec 1 := Scalar.cmpi .ne v804 c0_i32_718
  v805

def k0_off42 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond122 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c9_i32_719 : BitVec 32 := 9#32
  let v806 : BitVec 1 := Scalar.cmpi .ne v69 c9_i32_719
  let v807 : BitVec 32 := Scalar.extui v806
  let c0_i32_720 : BitVec 32 := 0#32
  let v808 : BitVec 1 := Scalar.cmpi .ne v807 c0_i32_720
  v808

def k0_off43 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond123 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c10_i32_721 : BitVec 32 := 10#32
  let v809 : BitVec 1 := Scalar.cmpi .ne v69 c10_i32_721
  let v810 : BitVec 32 := Scalar.extui v809
  let c0_i32_722 : BitVec 32 := 0#32
  let v811 : BitVec 1 := Scalar.cmpi .ne v810 c0_i32_722
  v811

def k0_off44 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond124 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c11_i32_723 : BitVec 32 := 11#32
  let v812 : BitVec 1 := Scalar.cmpi .ne v69 c11_i32_723
  let v813 : BitVec 32 := Scalar.extui v812
  let c0_i32_724 : BitVec 32 := 0#32
  let v814 : BitVec 1 := Scalar.cmpi .ne v813 c0_i32_724
  v814

def k0_off45 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond125 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c12_i32_725 : BitVec 32 := 12#32
  let v815 : BitVec 1 := Scalar.cmpi .ne v69 c12_i32_725
  let v816 : BitVec 32 := Scalar.extui v815
  let c0_i32_726 : BitVec 32 := 0#32
  let v817 : BitVec 1 := Scalar.cmpi .ne v816 c0_i32_726
  v817

def k0_off46 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond126 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c13_i32_727 : BitVec 32 := 13#32
  let v818 : BitVec 1 := Scalar.cmpi .ne v69 c13_i32_727
  let v819 : BitVec 32 := Scalar.extui v818
  let c0_i32_728 : BitVec 32 := 0#32
  let v820 : BitVec 1 := Scalar.cmpi .ne v819 c0_i32_728
  v820

def k0_off47 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond127 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c14_i32_729 : BitVec 32 := 14#32
  let v821 : BitVec 1 := Scalar.cmpi .ne v69 c14_i32_729
  let v822 : BitVec 32 := Scalar.extui v821
  let c0_i32_730 : BitVec 32 := 0#32
  let v823 : BitVec 1 := Scalar.cmpi .ne v822 c0_i32_730
  v823

def k0_off48 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
def k0_cond128 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c15_i32_731 : BitVec 32 := 15#32
  let v824 : BitVec 1 := Scalar.cmpi .ne v69 c15_i32_731
  let v825 : BitVec 32 := Scalar.extui v824
  let c0_i32_732 : BitVec 32 := 0#32
  let v826 : BitVec 1 := Scalar.cmpi .ne v825 c0_i32_732
  v826

def k0_off49 (d0 : Dev nD) : Fin 3 → Nat :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v52 : BitVec 1 := Scalar.cmpi .sgt v2 c0_i32_23
  let v53 : BitVec 32 := Scalar.extui v52
  let c0_i32_24 : BitVec 32 := 0#32
  let v54 : BitVec 1 := Scalar.cmpi .slt v2 c0_i32_24
  let v55 : BitVec 32 := Scalar.extui v54
  let v56 : BitVec 32 := Scalar.subi v53 v55
  let c8_i32_22 : BitVec 32 := 8#32
  let c0_i32_25 : BitVec 32 := 0#32
  let v57 : BitVec 1 := Scalar.cmpi .sgt c8_i32_22 c0_i32_25
  let v58 : BitVec 32 := Scalar.extui v57
  let c0_i32_26 : BitVec 32 := 0#32
  let v59 : BitVec 1 := Scalar.cmpi .slt c8_i32_22 c0_i32_26
  let v60 : BitVec 32 := Scalar.extui v59
  let v61 : BitVec 32 := Scalar.subi v58 v60
  let v62 : BitVec 1 := Scalar.cmpi .ne v56 v61
  let v63 : BitVec 32 := Scalar.remsi v2 c8_i32_22
  let c0_i32_27 : BitVec 32 := 0#32
  let v64 : BitVec 1 := Scalar.cmpi .ne v63 c0_i32_27
  let v65 : BitVec 1 := Scalar.andi v62 v64
  let v51 : BitVec 32 := Scalar.divsi v2 c8_i32_22
  let c1_i32_28 : BitVec 32 := 1#32
  let v66 : BitVec 32 := Scalar.subi v51 c1_i32_28
  let v67 : BitVec 32 := Scalar.select v65 v66 v51
  let v68 : BitVec 32 := Scalar.muli c4_i32 v67
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v69 : BitVec 32 := Scalar.addi v68 v29
  let c0_i32_738 : BitVec 32 := 0#32
  let c0_i32_739 : BitVec 32 := 0#32
  ![v69.toNat, 0, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x16384 : Shape := ⟨2, ![1024, 16384]⟩
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S1024x16384, .f32⟩
  | .hbm, ⟨3, _⟩ => ⟨S16384x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Mesh.lean ====
/-
The 32 devices as 16 pairs: the arithmetic of device numbers.

The mesh is read as 4 groups of 8 devices; in a group, a device `8 a + q` belongs to pair `q / 2`. So there are
16 pairs, numbered by `rank`, and a device is the member `team` (0 or 1) of its pair. Devices of one team
exchange blocks across ranks; the two members of a pair (`partner`) exchange blocks first.
-/
module

public import proofs.«01_k».proof.Proof.Gen.KernelIdeal

@[expose] public section

namespace Cert.Combine

open Cert.KernelIdeal Idealize.ShloMosaic

/-- A device. -/
abbrev D32 : Type := Dev nD

/-- The number of the pair device `c` belongs to. -/
def rank (c : D32) : Fin 16 := ⟨(4 * (c.val / 8) + c.val % 8 / 2) % 16, Nat.mod_lt _ (by decide)⟩

/-- Which member of its pair device `c` is: the parity of `c`, flipped on every second pair of a group. -/
def team (c : D32) : Fin 2 := ⟨(c.val + c.val % 8 / 2) % 2, Nat.mod_lt _ (by decide)⟩

/-- The member `s` of pair `r`. -/
def pos (s : Fin 2) (r : Fin 16) : D32 := ⟨(8 * (r.val / 4) + 2 * (r.val % 4) + (s.val + r.val % 4) % 2) % 32, Nat.mod_lt _ (by decide)⟩

/-- The other member of `c`'s pair. -/
def partner (c : D32) : D32 := pos (1 - team c) (rank c)

/-- The device at rank `r` that device `c` signals: its partner for its own rank, else its team's member. -/
def peer (c : D32) (r : Fin 16) : D32 := if r = rank c then partner c else pos (team c) r

theorem pos_team_rank (c : D32) : pos (team c) (rank c) = c := by revert c; decide +kernel
theorem team_pos (s : Fin 2) (r : Fin 16) : team (pos s r) = s := by revert s r; decide +kernel
theorem rank_pos (s : Fin 2) (r : Fin 16) : rank (pos s r) = r := by revert s r; decide +kernel
theorem rank_partner (c : D32) : rank (partner c) = rank c := rank_pos _ _
theorem team_partner (c : D32) : team (partner c) = 1 - team c := team_pos _ _
theorem partner_partner (c : D32) : partner (partner c) = c := by revert c; decide +kernel
theorem partner_ne (c : D32) : partner c ≠ c := by revert c; decide +kernel
theorem one_sub_one_sub (s : Fin 2) : 1 - (1 - s) = s := by revert s; decide

theorem rank_peer (c : D32) (r : Fin 16) : rank (peer c r) = r := by revert c r; decide +kernel
theorem peer_peer (c : D32) (r : Fin 16) : peer (peer c r) (rank c) = c := by revert c r; decide +kernel
theorem peer_rank (c : D32) : peer c (rank c) = partner c := if_pos rfl
theorem peer_of_ne {c : D32} {r : Fin 16} (h : r ≠ rank c) : peer c r = pos (team c) r := if_neg h
theorem team_peer {c : D32} {r : Fin 16} (h : r ≠ rank c) : team (peer c r) = team c := by rw [peer_of_ne h, team_pos]
theorem rank_ne_peer {c : D32} {r : Fin 16} (h : r ≠ rank c) : rank c ≠ rank (peer c r) := by rw [rank_peer]; exact h.symm
theorem peer_eq_rank_iff {c : D32} {r : Fin 16} : Iff (rank c = rank (peer c r)) (r = rank c) := by rw [rank_peer]; exact eq_comm

/-- "Device `c`'s signal number `r`" and "device `peer c r`'s signal number `rank c`" are each other's answer. -/
def cross : D32 × Fin 16 ≃ D32 × Fin 16 where
  toFun x := (peer x.1 x.2, rank x.1)
  invFun x := (peer x.1 x.2, rank x.1)
  left_inv x := by simp only [peer_peer, rank_peer]
  right_inv x := by simp only [peer_peer, rank_peer]

/-- The two members of each pair, exchanged. -/
def swap : D32 ≃ D32 := ⟨partner, partner, partner_partner, partner_partner⟩

/-- The devices as (member, pair). -/
def byPair : Fin 2 × Fin 16 ≃ D32 where
  toFun x := pos x.1 x.2
  invFun c := (team c, rank c)
  left_inv x := by simp only [team_pos, rank_pos]
  right_inv c := pos_team_rank c

end Cert.Combine
-- ==== Proof.Cells.lean ====
/-
The buffers, the semaphores and the levels of the exchange.

Every device has one barrier semaphore and four arrays of sixteen transfer semaphores:
  * `(0, g)` — the block `g` sent to the partner has left,
  * `(1, g)` — the partner's block `g` has arrived,
  * `(2, r)` — the combined block sent to rank `r` has left,
  * `(3, r)` — the combined block of rank `r` has arrived.
A wait happens at a level below everything the waiting device still owes: barrier 1, partner blocks 2,
combined blocks 3, everything else 0.
-/
module

public import proofs.«01_k».proof.Proof.Mesh
public import Idealize.ShloMosaic.Lib.Pipeline.Launch
public import Idealize.ShloMosaic.Lib.Pipeline.Kit
public import Idealize.ShloMosaic.Lib.Tactic

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The resource algebra: the pipeline library's part and the exchange's, whose duties are named by ranks -/

abbrev UB : Type := URounds (GSem nD τ sig) (Fin 16)
abbrev UU : Type := UR sig nD τ × UB

/-- The assertions about runs whose float values are `F`. -/
abbrev MM (F : FTy → Type) : Type := MT nD τ sig Unit (Elt F) ℕ UU ℕ

abbrev EP (F : FTy → Type) : Emb (UR sig nD τ) (MM F) := embL
abbrev ER (F : FTy → Type) : Emb UB (MM F) := embR

/-! ## The buffers and their sixteen slots -/

abbrev aM : Memref sig .tc .vmem S1024x512 .bf16 := Memref.whole cc0_stg0_0
abbrev bM : Memref sig .tc .vmem S512x1024 .bf16 := Memref.whole cc0_stg1_0
abbrev oM : Memref sig .tc .vmem S32x1024 .f32 := Memref.whole cc0_stg2_0
/-- The buffer type of the five scratch arrays. -/
abbrev Sixteen : Type := Memref sig .tc .vmem S16x32x1024 .bf16
/-- The device's own sixteen row blocks for member 0 of each pair, -/
abbrev b0M : Sixteen := Memref.whole cc0_scratch0
/-- and for member 1; -/
abbrev b1M : Sixteen := Memref.whole cc0_scratch1
/-- the partner's blocks as they arrive; -/
abbrev xM : Sixteen := Memref.whole cc0_scratch2
/-- the blocks combined with the partner's; -/
abbrev cM : Sixteen := Memref.whole cc0_scratch3
/-- the combined blocks of all ranks, as they arrive. -/
abbrev rM : Sixteen := Memref.whole cc0_scratch4

/-- The buffer of the device's own blocks for member `s`. -/
def bufB (s : Fin 2) : Sixteen := if s = 0 then b0M else b1M

theorem slot_inb (g : Fin 16) : ∀ a : Fin 3, (![g.val, 0, 0] : Fin 3 → Nat) a + S1x32x1024.size a ≤ S16x32x1024.size a := by
  revert g; decide
/-- The elements of slot `g`. -/
abbrev slotRect (g : Fin 16) : Rect S16x32x1024 := Rect.unit (s := S16x32x1024) ![g.val, 0, 0] S1x32x1024.size (slot_inb g)
/-- Slot `g` of a buffer. -/
abbrev slot (M : Sixteen) (g : Fin 16) : Memref sig .tc .vmem S1x32x1024 .bf16 := M.slice (slotRect g) (fun _ => rfl)

/-! ## The semaphores -/

theorem sem_inb (g : Fin 16) : ∀ a : Fin 1, (![g.val] : Fin 1 → Nat) a + S1.size a ≤ S16.size a := by revert g; decide
/-- Element `g` of an array of sixteen transfer semaphores. -/
abbrev semAt (A : DmaSems sig S16) (g : Fin 16) : DmaSem sig :=
  ((A.slice (Rect.unit (s := S16) ![g.val] S1.size (sem_inb g))).squeeze S_ squeezes_S1_S_).sem

/-- The runtime's barrier semaphore. -/
abbrev barS : Sem sig := (SemArray.scalar (sig.barrier 0 rfl) : Sems sig S_).sem

/-- The four arrays. -/
abbrev arrS : Fin 4 → DmaSems sig S16
  | 0 => cc0_scratch5 | 1 => cc0_scratch6 | 2 => cc0_scratch7 | 3 => cc0_scratch8

/-- The kernel's own transfer semaphores. -/
abbrev osem (k : Fin 4 × Fin 16) : SemLoc sig := .dma (semAt (arrS k.1) k.2)

/-- A semaphore of the exchange: the barrier (`none`) or one of the kernel's own. -/
abbrev CI : Type := Option (Fin 4 × Fin 16)
def csem : CI → SemLoc sig
  | none => .reg barS
  | some k => osem k
/-- The cell of device `ck.1`'s semaphore `ck.2`. -/
def kcell (ck : Dev nD × CI) : GSem nD τ sig := ((ck.1 : Thread nD τ), csem ck.2)
abbrev barCell (c : Dev nD) : GSem nD τ sig := ((c : Thread nD τ), .reg barS)
abbrev dmaCell (c : Dev nD) (k : Fin 4) (g : Fin 16) : GSem nD τ sig := ((c : Thread nD τ), .dma (semAt (arrS k) g))

theorem osem_injective : Function.Injective osem := by decide +kernel
theorem csem_injective : Function.Injective csem := by
  rintro (_ | a) (_ | b) h
  · rfl
  · cases h
  · cases h
  · exact congrArg some (osem_injective h)
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

open Classical in
/-- Which semaphore of the exchange a cell is, if it is one. -/
def decode (g : GSem nD τ sig) : Option (Dev nD × CI) := if h : ∃ ck, kcell ck = g then some h.choose else none
theorem decode_kcell (ck : Dev nD × CI) : decode (kcell ck) = some ck := by
  have h : ∃ ck', kcell ck' = kcell ck := ⟨ck, rfl⟩
  unfold decode; rw [dif_pos h]
  exact congrArg some (kcell_injective h.choose_spec)
theorem decode_bar (c : Dev nD) : decode (barCell c) = some (c, none) := decode_kcell (c, none)
theorem decode_dma (c : Dev nD) (k : Fin 4) (g : Fin 16) : decode (dmaCell c k g) = some (c, some (k, g)) := decode_kcell (c, some (k, g))
theorem decode_eq_none {g : GSem nD τ sig} (h : ∀ k, csem k ≠ g.2) : decode g = none := by
  unfold decode; rw [dif_neg]; rintro ⟨ck, rfl⟩; exact h ck.2 rfl

/-- The credit one slot moves. -/
abbrev N : ℕ := (slot xM 0).view.dmaCredit
theorem N_pos : 0 < N := View.dmaCredit_pos _ (by decide)

/-! ## The levels -/

/-- The level of a semaphore. -/
def lvOf : CI → ℕ
  | none => 1
  | some (k, _) => if k = 1 then 2 else if k = 3 then 3 else 0

def L (g : GSem nD τ sig) : Finset Unit := if g.1.2 = .tc then {()} else ∅
def lv (g : GSem nD τ sig) (_ : Unit) : ℕ := match decode g with
  | none => 0
  | some ck => lvOf ck.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [decode_bar]; rfl
theorem lv_dma (c : Dev nD) (k : Fin 4) (g : Fin 16) : lv (dmaCell c k g) () = lvOf (some (k, g)) := by unfold lv; rw [decode_dma]

/-- All that is owed is owed to cells of a level above `l`. -/
def Above (l : ℕ) (O : CellTallies nD τ sig Unit) : Prop := ∀ g u, 0 < O g u → g.1.2 = .tc ∧ l < lv g u

theorem Above.zero (l : ℕ) : Above l 0 := fun g u h => absurd h (Nat.lt_irrefl 0)
theorem Above.add {l : ℕ} {O O' : CellTallies nD τ sig Unit} (h : Above l O) (h' : Above l O') : Above l (O + O') := fun g u hg => by
  rw [Pi.add_apply, Finsupp.add_apply] at hg
  rcases Nat.eq_zero_or_pos (O g u) with h0 | h0
  · exact h' g u (by omega)
  · exact h g u h0
theorem Above.sum {l : ℕ} {I : Type} (S : Finset I) {T : I → CellTallies nD τ sig Unit} (h : ∀ i, Above l (T i)) : Above l (∑ i ∈ S, T i) := by
  classical
  induction S using Finset.induction_on with
  | empty => rw [Finset.sum_empty]; exact Above.zero l
  | insert a s ha ih => rw [Finset.sum_insert ha]; exact (h a).add ih
theorem Above.ite {l : ℕ} {p : Prop} [Decidable p] {O O' : CellTallies nD τ sig Unit} (h : Above l O) (h' : Above l O') : Above l (if p then O else O') := by
  split <;> assumption
theorem Above.tally {l : ℕ} {c : Dev nD} {sm : SemLoc sig} (n : ℕ) (h : l < lv ((c : Thread nD τ), sm) ()) :
    Above l (tallyAt ((c : Thread nD τ), sm) () n) := fun g u hg => by
  rw [tallyAt_apply] at hg
  by_cases h' : g = ((c : Thread nD τ), sm) ∧ u = ()
  · rw [h'.1]; exact ⟨rfl, h⟩
  · rw [if_neg h'] at hg; exact absurd hg (Nat.lt_irrefl 0)

/-- A device may wait on a cell of level at most `l` while all it owes lies above `l`. -/
theorem mayWait {F : FTy → Type} (l : ℕ) (c : Dev nD) (sm : SemLoc sig) (hl : lv ((c : Thread nD τ), sm) () ≤ l)
    {O : CellTallies nD τ sig Unit} (hO : Above l O) : (levAts L lv : sProp (MM F)) ⊢ MayWait (c : Thread nD τ) sm () O :=
  MayOwe.of_cut (L := L) (lev := lv) l (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

end Cert.Combine

end
-- ==== Proof.Contents.lean ====
/-
What the buffers hold: the values of the exchange.

Device `c` multiplies its block of `A` by its block of `B`: its partial product `part c`, of which 32 rows
belong to each device. It keeps these as sixteen blocks for each member of a pair (`blkV`); the members of a
pair exchange the blocks the other collects, each adds what it received to its own (`combV`), and the sums
are exchanged along the ranks of a team (`recvV`), where they are added up (`outV`).
-/
module

public import proofs.«01_k».proof.Proof.Mesh
public import proofs.«01_k».proof.Proof.Gen.KernelIdeal.Skeleton
public import Idealize.ShloMosaic.Lib.ValueIdxCore

@[expose] public section

noncomputable section

namespace Cert.Combine

open Cert.KernelIdeal Cert.KernelIdeal.Gen
open Idealize.ShloMosaic

variable {F : FTy → Type} [FloatOps F]

theorem rows_slices (k : Fin 32) : S1024x1024.Slices ![32 * k.val, 0] S32x1024 := by revert k; decide

/-- The 32 rows of `v` that belong to device `k`, as one block. -/
def rows (v : FVec F S1024x1024 .bf16) (k : Fin 32) : FVec F S1x32x1024 .bf16 :=
  shapeCast S1x32x1024 (extractStridedSlice S32x1024 ![32 * k.val, 0] v (rows_slices k)) shapeCasts_S32x1024_S1x32x1024

/-- The devices' blocks of the two arguments. -/
structure Args (F : FTy → Type) where
  a : Dev nD → Vec F S1024x512 .bf16
  b : Dev nD → Vec F S512x1024 .bf16

variable (V : Args F)

/-- Device `c`'s partial product. -/
def part (c : Dev nD) : FVec F S1024x1024 .bf16 := k0_pay1 (V.a c) (V.b c)
/-- Its block for member `s` of pair `g`. -/
def blkV (s : Fin 2) (c : Dev nD) (g : Fin 16) : FVec F S1x32x1024 .bf16 := rows (part V c) (pos s g)
/-- Its block for its team's member of pair `g`, added to its partner's. -/
def combV (c : Dev nD) (g : Fin 16) : FVec F S1x32x1024 .bf16 := k0_pay39 (blkV V (team c) c g) (blkV V (team c) (partner c) g)
/-- What device `c` receives from rank `r`: that device's combined block for `c`. -/
def recvV (c : Dev nD) (r : Fin 16) : FVec F S1x32x1024 .bf16 := combV V (pos (team c) r) (rank c)
/-- All sixteen received blocks as one array. -/
def recvAll (c : Dev nD) : FVec F S16x32x1024 .bf16 := fun i => recvV V c (i 0) (ValueIdx.ix3 (0 : Fin 1) (i 1) (i 2))
/-- Device `c`'s rows of the result. -/
def outV (c : Dev nD) : FVec F S32x1024 .f32 := k0_pay72 (recvAll V c)

/-- Device `c`'s own combined block for itself is what it "receives" from its own rank. -/
theorem recvV_rank (c : Dev nD) : recvV V c (rank c) = combV V c (rank c) := by unfold recvV; rw [pos_team_rank]
/-- What `c` sends to the device of rank `r` is what that device is to receive from `c`'s rank. -/
theorem recvV_peer (c : Dev nD) {r : Fin 16} (h : r ≠ rank c) : recvV V (peer c r) (rank c) = combV V c r := by
  unfold recvV; rw [team_peer h, pos_team_rank, rank_peer]

end Cert.Combine

end
-- ==== Proof.Slots.lean ====
/-
Slots: a device's hold on one slot of a buffer, what loads, stores and copies do to it, and a whole buffer as
its sixteen slots.
-/
module

public import proofs.«01_k».proof.Proof.Cells
public import proofs.«01_k».proof.Proof.Contents
public import Idealize.ShloMosaic.Lib.Ring

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (F) in
theorem elt_nonempty : ∀ e, Nonempty (Elt F e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨FloatOps.ofBits _ 0⟩ | .fp8e5m2 => ⟨FloatOps.ofBits _ 0⟩ | .bf16 => ⟨FloatOps.ofBits _ 0⟩
  | .f16 => ⟨FloatOps.ofBits _ 0⟩ | .f32 => ⟨FloatOps.ofBits _ 0⟩

abbrev 𝒱₀ : Variants := Variants.none

/-- A program of a device. -/
abbrev Code (F : FTy → Type) (α : Type) : Type 1 := Prog (TpuEff nD τ sig (Elt F) Λ₀ .tc) α

/-- A wait for a transfer. -/
abbrev waitCode {s : Shape} (sm : DmaSem sig) (src dst : Memref sig .tc .vmem s .bf16) (h1 : src.view.WordExact) (h2 : dst.view.WordExact) : Code F PUnit :=
  Prog.lift (TpuEff.waitDma2 sm src dst h1 h2)

/-- On device `c`, the program `p` runs safely and ends in `Q`. -/
abbrev wpD (c : Dev nD) {α : Type} (p : Code F α) (Q : α → sProp (MM F)) : sProp (MM F) :=
  wp frame (wpE (defs₀ (F := F)) 𝒱₀ (c : Thread nD τ) none) Set.univ p Q

/-- Device `c` holds slot `g` of `M`, whose contents are `X`. -/
abbrev held (c : Dev nD) (M : Sixteen) (g : Fin 16) (X : Vec F S1x32x1024 .bf16) : sProp (MM F) :=
  owns (c : Thread nD τ) (slot M g) fullShare X
/-- Device `c` holds slot `g` of `M`, whatever its contents. -/
def anyAt (c : Dev nD) (M : Sixteen) (g : Fin 16) : sProp (MM F) := iprop(∃ X : Vec F S1x32x1024 .bf16, held c M g X)
/-- Device `c` holds all of `M`, whatever its contents. -/
def anyAll (c : Dev nD) (M : Sixteen) : sProp (MM F) := bigSep Finset.univ fun g => anyAt c M g

omit [FloatOps F] in
instance anyAt_storable (c : Dev nD) (M : Sixteen) (g : Fin 16) : BI.Storable (upEmb : UEmb _ (MM F)) (anyAt (F := F) c M g) := by
  unfold anyAt; infer_instance
omit [FloatOps F] in
instance anyAll_storable (c : Dev nD) (M : Sixteen) : BI.Storable (upEmb : UEmb _ (MM F)) (anyAll (F := F) c M) := by
  unfold anyAll; infer_instance

omit [FloatOps F] in
theorem held_any {c : Dev nD} {M : Sixteen} {g : Fin 16} {X : Vec F S1x32x1024 .bf16} : held c M g X ⊢ (anyAt c M g : sProp (MM F)) := by
  unfold anyAt; iintro H; iexists X; iexact H

/-! ## Loads and stores -/

/-- A load of a slot reads its contents. -/
theorem load_slot {c : Dev nD} {M : Sixteen} {g : Fin 16} {X : Vec F S1x32x1024 .bf16} {off : Fin 3 → Nat} {inb} {hl}
    (hoff : off = ![g.val, 0, 0]) :
    held c M g X ⊢ wpD c (Prog.lift (TpuEff.load M (Rect.unit (s := S16x32x1024) off S1x32x1024.size inb).toLoadRect hl) : Code F _)
      (fun v => iprop(⌜v = X⌝ ∗ held c M g X)) := by
  subst hoff
  unfold Prog.lift held owns
  iintro ⟨%f, %hf, H⟩
  iapply (wp_load_rect 𝒱₀ (c : Thread nD τ) none Set.univ (m := M) (r := slotRect g) subset_rfl) $$ H
  iintro H
  rw [wp_ret]; imodintro
  isplitr; · ipureintro; exact hf
  iexists f; isplitr; · ipureintro; exact hf
  iexact H

/-- A load of a slot whose contents are not known changes nothing. -/
theorem load_any {c : Dev nD} {M : Sixteen} {g : Fin 16} {off : Fin 3 → Nat} {inb} {hl} (hoff : off = ![g.val, 0, 0]) :
    (anyAt c M g : sProp (MM F)) ⊢ wpD c (Prog.lift (TpuEff.load M (Rect.unit (s := S16x32x1024) off S1x32x1024.size inb).toLoadRect hl) : Code F _)
      (fun _ => anyAt c M g) := by
  unfold anyAt
  refine exists_elim fun X => (load_slot hoff).trans (wp_mono _ _ _ fun _ => ?_)
  iintro ⟨-, H⟩; iexists X; iexact H

/-- A store to a slot sets its contents. -/
theorem store_slot {c : Dev nD} {M : Sixteen} {g : Fin 16} {w : Vec F S1x32x1024 .bf16} {off : Fin 3 → Nat} {inb} {hx hm}
    (hoff : off = ![g.val, 0, 0]) :
    (anyAt c M g : sProp (MM F)) ⊢ wpD c (Prog.lift (TpuEff.store M (Rect.unit (s := S16x32x1024) off S1x32x1024.size inb) w Finset.univ hx hm) : Code F _)
      (fun _ => held c M g w) := by
  subst hoff
  unfold Prog.lift anyAt held owns
  iintro ⟨%X, %f, %hf, H⟩
  iapply (wp_store 𝒱₀ (c : Thread nD τ) none Set.univ (m := M) (r := slotRect g) (w := w) (Mk := Finset.univ) (f := f)
    (S := (slot M g).view.set) (hS := (View.setOn_univ (slot M g).view).subset)) $$ H
  iintro H
  rw [wp_ret]; imodintro
  iexists (slot M g).view.write (Elt F) f w Finset.univ; isplitr
  · ipureintro; exact View.read_write_univ (v := (slot M g).view) f w
  iexact H

/-! ## A slot seen as a matrix -/

/-- Slot `g` of `M` as a 32 × 1024 matrix: how the second exchange names it. -/
abbrev mat (M : Sixteen) (g : Fin 16) : Memref sig .tc .vmem S32x1024 .bf16 := (slot M g).squeeze S32x1024 squeezes_S1x32x1024_S32x1024

/-- The contents of a slot as a matrix. -/
def asMat (X : Vec F S1x32x1024 .bf16) : Vec F S32x1024 .bf16 := shapeCast S32x1024 X shapeCasts_S1x32x1024_S32x1024

/-- Holding a slot is holding its matrix. -/
theorem held_mat (c : Dev nD) (M : Sixteen) (g : Fin 16) (X : Vec F S1x32x1024 .bf16) :
    held c M g X ⊢ (owns (c : Thread nD τ) (mat M g) fullShare (asMat X) : sProp (MM F)) := by
  unfold held owns
  iintro ⟨%f, %hf, H⟩
  iexists f
  isplitr
  · ipureintro; subst hf; rfl
  · rw [show (mat M g).view.set = (slot M g).view.set from View.set_reshape (v := (slot M g).view) squeezes_S1x32x1024_S32x1024.numel_eq]; iexact H

theorem asMat_injective {X Y : Vec F S1x32x1024 .bf16} (h : asMat X = asMat Y) : X = Y := by
  funext i
  have := congrFun h ((Shape.reshapeEquiv squeezes_S1x32x1024_S32x1024.numel_eq).symm i)
  unfold asMat shapeCast at this
  simpa using this

/-- Holding the matrix of a slot is holding the slot. -/
theorem mat_held (c : Dev nD) (M : Sixteen) (g : Fin 16) (X : Vec F S1x32x1024 .bf16) :
    (owns (c : Thread nD τ) (mat M g) fullShare (asMat X) : sProp (MM F)) ⊢ held c M g X := by
  unfold held owns
  iintro ⟨%f, %hf, H⟩
  iexists f
  isplitr
  · ipureintro; exact asMat_injective hf
  · rw [show (slot M g).view.set = (mat M g).view.set from (View.set_reshape (v := (slot M g).view) squeezes_S1x32x1024_S32x1024.numel_eq).symm]; iexact H

/-! ## A buffer as its slots -/

theorem slots_disjoint (g g' : Fin 16) (h : g ≠ g') : Disjoint (slotRect g).set (slotRect g').set :=
  Ring.lead_disjoint (s := S16x32x1024) (0 : Fin 3) 1 (fun g : Fin 16 => (![g.val, 0, 0] : Fin 3 → ℕ)) S1x32x1024.size slot_inb
    (fun b => (Nat.one_mul b.val).symm) rfl g g' h
theorem slots_cover : Finset.univ.biUnion (fun g => (slotRect g).set) = Finset.univ :=
  Ring.lead_cover (s := S16x32x1024) (0 : Fin 3) 1 (fun g : Fin 16 => (![g.val, 0, 0] : Fin 3 → ℕ)) S1x32x1024.size slot_inb
    (fun b => (Nat.one_mul b.val).symm) (by intro b a ha; fin_cases a <;> first | exact absurd rfl ha | rfl) rfl
    (by intro a ha; fin_cases a <;> first | exact absurd rfl ha | rfl) rfl

/-- A buffer held whole is its sixteen slots, each at its part of the contents. -/
theorem slots_of_whole (c : Dev nD) (M : Sixteen) :
    (iprop(∃ X : Vec F S16x32x1024 .bf16, owns (c : Thread nD τ) M fullShare X) : sProp (MM F)) ⊢ anyAll c M := by
  unfold anyAll
  refine exists_elim fun X => (owns_rects (c : Thread nD τ) M fullShare slotRect (fun _ _ => rfl) slots_disjoint slots_cover X).trans ?_
  exact bigSep_mono fun g _ => held_any

/-- Slots at known contents join to the whole buffer at those contents. -/
theorem whole_of_slots (c : Dev nD) (M : Sixteen) (X : Fin 16 → Vec F S1x32x1024 .bf16) :
    (bigSep Finset.univ fun g => held c M g (X g)) ⊢ (owns (c : Thread nD τ) M fullShare
      (fun i : S16x32x1024.Idx => X (i 0) (ValueIdx.ix3 (0 : Fin 1) (i 1) (i 2))) : sProp (MM F)) := by
  have := elt_nonempty F
  refine (Entails.of_eq ?_).trans (owns_of_rects (c : Thread nD τ) M fullShare slotRect (fun _ _ => rfl) slots_disjoint slots_cover _)
  refine bigSep_congr fun g _ => congrArg _ (funext fun j => ?_)
  have h0 : (slotRect g).emb j 0 = g := Fin.ext (by
    show g.val + 1 * (j 0).val = g.val
    have : (j 0).val < 1 := (j 0).isLt
    omega)
  have h1 : ValueIdx.ix3 (0 : Fin 1) ((slotRect g).emb j 1) ((slotRect g).emb j 2) = j := funext fun a => by
    match a with
    | ⟨0, _⟩ => exact Fin.ext (by have : (j 0).val < 1 := (j 0).isLt; show 0 = (j 0).val; omega)
    | ⟨1, _⟩ => exact Fin.ext (by show 0 + 1 * (j 1).val = (j 1).val; omega)
    | ⟨2, _⟩ => exact Fin.ext (by show 0 + 1 * (j 2).val = (j 2).val; omega)
  exact (congrArg₂ X h0 h1).symm

/-- Slots at any contents join to the whole buffer at some contents. -/
theorem whole_of_any (c : Dev nD) (M : Sixteen) :
    (anyAll c M : sProp (MM F)) ⊢ iprop(∃ X : Vec F S16x32x1024 .bf16, owns (c : Thread nD τ) M fullShare X) := by
  unfold anyAll anyAt
  have : Nonempty (Vec F S1x32x1024 .bf16) := ⟨fun _ => (elt_nonempty F .bf16).some⟩
  refine (BI.bigSep_exists_pi Finset.univ (fun g (X : Vec F S1x32x1024 .bf16) => (held c M g X : sProp (MM F)))).trans ?_
  iintro ⟨%X, H⟩
  ihave H' := (whole_of_slots (F := F) c M X) $$ H
  iexists _; iexact H'

end Cert.Combine

end
-- ==== Proof.Schedule.lean ====
/-
The schedule: for every semaphore, who pays it, how much, and what is handed over with the payment.

A barrier cell is paid once by each of the device's sixteen peers; each payment hands over the buffer space
the receiver of the signal will write on the payer. A transfer cell is paid once, by the transfer, and hands
over the slot the transfer read or wrote.
-/
module

public import proofs.«01_k».proof.Proof.Slots

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (V : Args F)

/-- What device `c` hands over when it signals number `r`: all of its partner buffer to its partner, and slot `r`
of its receive buffer to its team's member of rank `r`. -/
def handed (c : Dev nD) (r : Fin 16) : sProp (MM F) := if r = rank c then anyAll c xM else anyAt c rM r

/-- What the transfer that pays cell `(k, g)` of device `c` hands over there. -/
def moved (c : Dev nD) (k : Fin 4) (g : Fin 16) : sProp (MM F) := match k with
  | 0 => held c (bufB (1 - team c)) g (blkV V (1 - team c) c g)
  | 1 => held c xM g (blkV V (team c) (partner c) g)
  | 2 => held c cM g (combV V c g)
  | 3 => held c rM g (recvV V c g)

/-- Whether a transfer cell is used: a device sends no combined block to itself. -/
def Used (c : Dev nD) (k : Fin 4) (g : Fin 16) : Prop := ¬ (2 ≤ k ∧ g = rank c)
instance (c : Dev nD) (k : Fin 4) (g : Fin 16) : Decidable (Used c k g) := by unfold Used; infer_instance

/-- The duties of a semaphore's only round. -/
def dut : Dev nD × CI → Finset (Fin 16)
  | (_, none) => Finset.univ
  | (c, some (k, g)) => if Used c k g then {0} else ∅
/-- The amount of each. -/
def amt : Dev nD × CI → ℕ
  | (_, none) => 1
  | (_, some _) => N
/-- What each hands over. -/
def pay : Dev nD × CI → Fin 16 → sProp (MM F)
  | (c, none), d => handed (peer c d) (rank c)
  | (c, some (k, g)), _ => moved V c k g

theorem amt_pos (ck : Dev nD × CI) : 0 < amt ck := by
  rcases ck with ⟨c, _ | k⟩
  · exact Nat.one_pos
  · exact N_pos

instance handed_storable (c : Dev nD) (r : Fin 16) : BI.Storable (upEmb : UEmb _ (MM F)) (handed (F := F) c r) := by
  unfold handed; split <;> infer_instance
instance moved_storable (c : Dev nD) (k : Fin 4) (g : Fin 16) : BI.Storable (upEmb : UEmb _ (MM F)) (moved V c k g) := by
  unfold moved; split <;> infer_instance
instance pay_storable (ck : Dev nD × CI) (d : Fin 16) : BI.Storable (upEmb : UEmb _ (MM F)) (pay V ck d) := by
  unfold pay; split <;> infer_instance

/-- The exchange's schedule: one round at each of its semaphores. -/
def sch : Rounds.Schedule (GSem nD τ sig) (Fin 16) (MM F) where
  duties g r := if r = 0 then (decode g).elim ∅ dut else ∅
  unitless _ := False
  amount g _ _ := (decode g).elim 1 amt
  payload g _ d := (decode g).elim iprop(emp) fun ck => pay V ck d
  amount_pos g _ _ _ := by
    cases decode g with
    | none => exact Nat.one_pos
    | some ck => exact amt_pos ck

instance sch_storable (g : GSem nD τ sig) (r : ℕ) (d : Fin 16) : BI.Storable (upEmb : UEmb _ (MM F)) ((sch V).payload g r d) := by
  show BI.Storable upEmb ((decode g).elim iprop(emp) fun ck => pay V ck d)
  cases decode g <;> · dsimp only [Option.elim]; infer_instance

theorem duties_at (ck : Dev nD × CI) : (sch V).duties (kcell ck) 0 = dut ck := by
  dsimp only [sch]; rw [if_pos rfl, decode_kcell]; rfl
theorem amount_at (ck : Dev nD × CI) (d : Fin 16) : (sch V).amount (kcell ck) 0 d = amt ck := by
  dsimp only [sch]; rw [decode_kcell]; rfl
theorem payload_at (ck : Dev nD × CI) (d : Fin 16) : (sch V).payload (kcell ck) 0 d = pay V ck d := by
  dsimp only [sch]; rw [decode_kcell]; rfl
theorem payload_peer (c : Dev nD) (r : Fin 16) : (sch V).payload (barCell (peer c r)) 0 (rank c) = handed c r :=
  (payload_at V (peer c r, none) (rank c)).trans (by
    show handed (peer (peer c r) (rank c)) (rank (peer c r)) = _
    rw [peer_peer, rank_peer])
theorem duty_bar (c : Dev nD) (d : Fin 16) : d ∈ (sch V).duties (barCell c) 0 := by
  rw [show (sch V).duties (barCell c) 0 = Finset.univ from duties_at V (c, none)]; exact Finset.mem_univ _
theorem duty_dma {c : Dev nD} {k : Fin 4} {g : Fin 16} (h : Used c k g) : (0 : Fin 16) ∈ (sch V).duties (dmaCell c k g) 0 := by
  rw [show (sch V).duties (dmaCell c k g) 0 = {0} from (duties_at V (c, some (k, g))).trans (if_pos h)]; exact Finset.mem_singleton_self _
theorem duties_later (g : GSem nD τ sig) : ∀ r, 1 ≤ r → (sch V).duties g r = ∅ := fun r hr => by
  dsimp only [sch]; exact if_neg (by omega)
theorem duties_unused {c : Dev nD} {k : Fin 4} {g : Fin 16} (h : ¬ Used c k g) : ∀ r, 0 ≤ r → (sch V).duties (dmaCell c k g) r = ∅ := fun r _ => by
  rcases Nat.eq_zero_or_pos r with rfl | hr
  · exact (duties_at V (c, some (k, g))).trans (if_neg h)
  · exact duties_later V _ r hr

theorem expect_bar (c : Dev nD) : (sch V).expect (barCell c) 0 = 16 := by
  unfold Schedule.expect Schedule.amountOf
  rw [show (sch V).duties (barCell c) 0 = Finset.univ from duties_at V (c, none),
    Finset.sum_congr rfl fun d _ => show (sch V).amount (barCell c) 0 d = 1 from amount_at V (c, none) d]
  rfl
theorem expect_dma {c : Dev nD} {k : Fin 4} {g : Fin 16} (h : Used c k g) : (sch V).expect (dmaCell c k g) 0 = N := by
  unfold Schedule.expect Schedule.amountOf
  rw [show (sch V).duties (dmaCell c k g) 0 = {0} from (duties_at V (c, some (k, g))).trans (if_pos h), Finset.sum_singleton]
  exact amount_at V (c, some (k, g)) 0

/-- A full barrier round hands over what every peer handed. -/
theorem rest_bar (c : Dev nD) : bigSep ((sch V).duties (barCell c) 0 \ ∅) (fun d => (sch V).payload (barCell c) 0 d)
    = bigSep Finset.univ fun r => handed (peer c r) (rank c) := by
  rw [Finset.sdiff_empty, show (sch V).duties (barCell c) 0 = Finset.univ from duties_at V (c, none)]
  exact bigSep_congr fun d _ => payload_at V (c, none) d
/-- A full transfer round hands over the slot. -/
theorem rest_dma {c : Dev nD} {k : Fin 4} {g : Fin 16} (h : Used c k g) :
    bigSep ((sch V).duties (dmaCell c k g) 0 \ ∅) (fun d => (sch V).payload (dmaCell c k g) 0 d) = moved V c k g := by
  rw [Finset.sdiff_empty, show (sch V).duties (dmaCell c k g) 0 = {0} from (duties_at V (c, some (k, g))).trans (if_pos h), bigSep_singleton]
  exact payload_at V (c, some (k, g)) 0

/-! ## What every device knows throughout -/

variable (K : Dev nD × CI → ℕ)

/-- Every cell's invariant, that every cell is at its round, and the levels. -/
def Pers : sProp (MM F) :=
  iprop((bigSep Finset.univ fun ck => cellInv (ER F) (sch V) (K ck) (kcell ck)) ∗ (bigSep Finset.univ fun ck => reached (ER F) (kcell ck) 0)
    ∗ levAts L lv)
instance Pers_persistent : BI.Persistent (Pers V K) := by unfold Pers; infer_instance

theorem inv_at (ck : Dev nD × CI) : Pers V K ⊢ cellInv (ER F) (sch V) (K ck) (kcell ck) := by
  unfold Pers
  exact sep_elim_left.trans (bigSep_elim (Finset.mem_univ ck))
theorem reached_at (ck : Dev nD × CI) : Pers V K ⊢ (reached (ER F) (kcell ck) 0 : sProp (MM F)) := by
  unfold Pers
  exact sep_elim_right.trans (sep_elim_left.trans (bigSep_elim (Finset.mem_univ ck)))
theorem mayWait_at (l : ℕ) (c : Dev nD) (sm : SemLoc sig) (hl : lv ((c : Thread nD τ), sm) () ≤ l) {O : CellTallies nD τ sig Unit} (hO : Above l O) :
    Pers V K ⊢ (MayWait (c : Thread nD τ) sm () O : sProp (MM F)) := by
  unfold Pers
  iintro ⟨-, -, H⟩; iapply (mayWait l c sm hl hO) $$ H

/-- What a device owes, whatever it has waited on. -/
def Owe (c : Dev nD) (O : CellTallies nD τ sig Unit) : sProp (MM F) := iprop(∃ W, owes (c : Thread nD τ) O W)

theorem owns_intro_eq {c : Thread nD τ} {s : Shape} {m : Memref sig c.2.kind .vmem s .bf16} {f : Buf (Elt F) (m.view.loc c)} {X : Vec F s .bf16}
    (h : m.view.read (Elt F) f = X) :
    (m.view.loc c ↦[m.view.set]{fullShare} f : sProp (MM F)) ⊢ iprop(∃ f, ⌜m.view.read (Elt F) f = X⌝ ∗ (m.view.loc c ↦[m.view.set]{fullShare} f)) := by
  iintro H; iexists f; isplitr; · ipureintro; exact h
  iexact H

/-! ## The three operations on semaphores -/

/-- A device's token to pay its one duty at a peer's barrier. -/
abbrev barTok (c : Dev nD) (r : Fin 16) : sProp (MM F) := dutyTok (ER F) (barCell (peer c r)) 0 (rank c)
/-- The token to pay a transfer cell. -/
abbrev dmaTok (c : Dev nD) (k : Fin 4) (g : Fin 16) : sProp (MM F) := dutyTok (ER F) (dmaCell c k g) 0 (0 : Fin 16)
/-- Being at the start of a transfer cell's round. -/
abbrev dmaPos (c : Dev nD) (k : Fin 4) (g : Fin 16) : sProp (MM F) := atPos (ER F) (dmaCell c k g) 0 ∅ 0
/-- A transfer cell closed: its counter at zero. -/
abbrev dmaEnd (c : Dev nD) (k : Fin 4) (g : Fin 16) : sProp (MM F) := semVal (dmaCell c k g) 0
/-- The credit for a transfer cell's round. -/
abbrev dmaCred (c : Dev nD) (k : Fin 4) (g : Fin 16) : sProp (MM F) := cred (tallyAt (dmaCell c k g) () N)

/-- A signal to a peer pays one duty of its barrier and hands the space over. -/
theorem signal_at (c : Dev nD) (r : Fin 16) (O : CellTallies nD τ sig Unit) :
    iprop(Pers V K ∗ barTok c r ∗ handed c r ∗ Owe c (tallyAt (barCell (peer c r)) () 1 + O))
      ⊢ wpD c (semSignalWord (peer c r) barS 1#32) (fun _ => Owe c O) := by
  unfold Owe semSignalWord
  iintro ⟨#HP, Ht, Hh, %W, HO⟩
  iapply (Rounds.wp_signal 𝒱₀ (ER F) (sch V) (c : Thread nD τ) none (dst := (peer c r : Thread nD τ)) (κ := K (peer c r, none))
      (d := rank c) (duty_bar V _ _)
      ((amount_at V (peer c r, none) (rank c)).trans (show 1 = (1#32 : BitVec 32).toNat by decide)) () O (add_comm _ _)) $$ [HO Ht Hh]
  · isplitr; · iapply (inv_at V K (peer c r, none)); iexact HP
    isplitl [HO]; · iexact HO
    isplitl [Ht]; · iexact Ht
    isplitl [Hh]
    · iapply (Entails.of_eq (payload_peer V c r).symm); iexact Hh
    iapply (reached_at V K (peer c r, none)); iexact HP
  iintro HO
  rw [wp_ret]; imodintro
  iexists W; iexact HO

/-- The barrier wait: all peers' space comes with it. -/
theorem wait_bar (c : Dev nD) (O : CellTallies nD τ sig Unit) (hO : Above 1 O) :
    iprop(Pers V K ∗ cred (tallyAt (barCell c) () 16) ∗ atPos (ER F) (barCell c) 0 ∅ 0 ∗ Owe c O)
      ⊢ wpD c (semWaitWord barS 16#32) (fun _ => iprop((semVal (barCell c) 0 ∗ bigSep Finset.univ fun r => handed (peer c r) (rank c)) ∗ Owe c O)) := by
  unfold Owe semWaitWord
  iintro ⟨#HP, Hc, Hat, %W, HO⟩
  iapply (Rounds.wp_wait_rest_token 𝒱₀ (ER F) (sch V) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_at V K (c, none)); iexact HP
    isplitl [Hc]; · iexact Hc
    isplitl [HO]; · iexact HO
    isplitr; · iapply (mayWait_at V K 1 c _ (le_of_eq (lv_bar c)) hO); iexact HP
    iexact Hat
  iintro ⟨HO, Hat, -, Hpay⟩
  ihave Hp := (Entails.of_eq (rest_bar V c)) $$ Hpay
  imod (Rounds.cell_close (ER F) (sch V) (Set.mem_univ (K (c, none))) (fun h => h) (R := 0 + 1) (duties_later V (barCell c))) $$ [Hat] with Hz
  · isplitr; · iapply (inv_at V K (c, none)); iexact HP
    iexact Hat
  rw [wp_ret]; imodintro
  isplitl [Hz Hp]; · isplitl [Hz] <;> iassumption
  iexists _; iexact HO

/-- A transfer wait: the slot comes with it, and the cell closes. -/
theorem wait_dma (c : Dev nD) (k : Fin 4) (g : Fin 16) (hu : Used c k g) (l : ℕ) (hl : lvOf (some (k, g)) ≤ l)
    {sp sp' : Space} {s : Shape} {e : EltTy} {src : Memref sig .tc sp s e} {dst : Memref sig .tc sp' s e} {h1 h2}
    (hN : dst.view.amount (.dma (semAt (arrS k) g)) = N) (O : CellTallies nD τ sig Unit) (hO : Above l O) :
    iprop(Pers V K ∗ (dmaCred c k g ∗ dmaPos c k g) ∗ Owe c O)
      ⊢ wpD c (Prog.lift (TpuEff.waitDma2 (semAt (arrS k) g) src dst h1 h2)) (fun _ => iprop((dmaEnd c k g ∗ moved V c k g) ∗ Owe c O)) := by
  unfold Owe Prog.lift
  iintro ⟨#HP, ⟨Hc, Hat⟩, %W, HO⟩
  iapply (Rounds.wp_wait_rest_token 𝒱₀ (ER F) (sch V) (c : Thread nD τ) none (κ := K (c, some (k, g)))
      (wpE_waitDma2_eq 𝒱₀ (c : Thread nD τ) none Set.univ) (Set.mem_univ _) () (O := O) (W := W) (R := 0) (m := 0) (T := ∅)
      (by rw [Nat.zero_add, expect_dma V hu]; exact hN)) $$ [Hc HO Hat]
  · isplitr; · iapply (inv_at V K (c, some (k, g))); iexact HP
    isplitl [Hc]; · rw [show dst.view.dmaCredit = N from hN]; iexact Hc
    isplitl [HO]; · iexact HO
    isplitr; · iapply (mayWait_at V K l c _ ((lv_dma c k g).trans_le hl) hO); iexact HP
    iexact Hat
  iintro ⟨HO, Hat, -, Hpay⟩
  ihave Hp := (Entails.of_eq (rest_dma V hu)) $$ Hpay
  imod (Rounds.cell_close (ER F) (sch V) (Set.mem_univ (K (c, some (k, g)))) (fun h => h) (R := 0 + 1) (duties_later V (dmaCell c k g))) $$ [Hat] with Hz
  · isplitr; · iapply (inv_at V K (c, some (k, g))); iexact HP
    iexact Hat
  rw [wp_ret]; imodintro
  isplitl [Hz Hp]; · isplitl [Hz] <;> iassumption
  iexists _; iexact HO

/-- A transfer cell that is not used closes at once. -/
theorem close_unused (c : Dev nD) (k : Fin 4) (g : Fin 16) (hu : ¬ Used c k g) :
    iprop(Pers V K ∗ dmaPos c k g) ⊢ (iprop(|={Set.univ}=> dmaEnd c k g) : sProp (MM F)) := by
  iintro ⟨#HP, Hat⟩
  imod (Rounds.cell_close (ER F) (sch V) (Set.mem_univ (K (c, some (k, g)))) (fun h => h) (R := 0) (duties_unused V hu)) $$ [Hat] with Hz
  · isplitr; · iapply (inv_at V K (c, some (k, g))); iexact HP
    iexact Hat
  imodintro; iexact Hz

/-- A transfer of a block to device `c'` pays one cell here and one there. The slot read is handed back here, the
slot written is handed over there. -/
theorem send_at (c c' : Dev nD) (k k' : Fin 4) (g g' : Fin 16) (hu : Used c k g) (hu' : Used c' k' g')
    {s : Shape} {src dst : Memref sig .tc .vmem s .bf16} {X : Vec F s .bf16} {hsc hsrc hdst hsem}
    (hN : dst.view.amount (.dma (semAt (arrS k') g')) = N)
    (hsend : (owns (c : Thread nD τ) src fullShare X : sProp (MM F)) ⊢ moved V c k g)
    (hrecv : (owns (c' : Thread nD τ) dst fullShare X : sProp (MM F)) ⊢ moved V c' k' g') (O : CellTallies nD τ sig Unit) :
    iprop(Pers V K ∗ (owns (c : Thread nD τ) src fullShare X ∗ (∃ Y, owns (c' : Thread nD τ) dst fullShare Y) ∗ dmaTok c k g ∗ dmaTok c' k' g')
        ∗ Owe c (tallyAt (dmaCell c' k' g') () N + O))
      ⊢ wpD c (Prog.lift (TpuEff.enqueueDma src (.remote (c' : Thread nD τ) dst (.dma (semAt (arrS k) g)) hsc) (.dma (semAt (arrS k') g')) hsrc hdst hsem))
          (fun _ => iprop(dmaCred c k g ∗ Owe c O)) := by
  unfold Owe Prog.lift owns at *
  iintro ⟨#HP, ⟨⟨%fs, %hs, Hs⟩, ⟨%Y, %fd, -, Hd⟩, Ht, Ht'⟩, %W, HO⟩
  iapply (Rounds.wp_send_pointsTo 𝒱₀ (ER F) (sch V) (c : Thread nD τ) none (κ₁ := K (c, some (k, g))) (κ₂ := K (c', some (k', g')))
      (r₁ := 0) (r₂ := 0) (d₁ := (0 : Fin 16)) (d₂ := (0 : Fin 16)) (fs := fs) (fd := fd) (q := fullShare)
      (duty_dma V hu) (duty_dma V hu')
      () () N hN (amount_at V (c, some (k, g)) 0) (amount_at V (c', some (k', g')) 0) O (add_comm _ _) (W := W)
      (by
        refine BI.Entails.trans ?_ (hsend.trans (Entails.of_eq (payload_at V (c, some (k, g)) 0).symm))
        exact owns_intro_eq hs)
      (by
        refine BI.Entails.trans ?_ (hrecv.trans (Entails.of_eq (payload_at V (c', some (k', g')) 0).symm))
        exact owns_intro_eq ((View.read_write_univ _ _).trans hs))) $$ [HO Hs Hd Ht Ht']
  · isplitr; · iapply (inv_at V K (c, some (k, g))); iexact HP
    isplitr; · iapply (inv_at V K (c', some (k', g'))); iexact HP
    isplitl [Hs]; · iexact Hs
    isplitl [Hd]; · iexact Hd
    isplitl [HO]; · iexact HO
    isplitl [Ht]; · iexact Ht
    isplitr; · iapply (reached_at V K (c, some (k, g))); iexact HP
    isplitl [Ht']; · iexact Ht'
    iapply (reached_at V K (c', some (k', g'))); iexact HP
  iintro ⟨Hc, HO⟩
  rw [wp_ret]; imodintro
  isplitl [Hc]; · iexact Hc
  iexists W; iexact HO

end Cert.Combine

end
-- ==== Proof.Loop.lean ====
/-
Loops over the sixteen pairs, unrolled.

The kernel does everything sixteen times, for the pairs `0, …, 15` in turn, written out. A `Phase` says what a
device holds for pair `i` after `j` steps of the treatment of `i`, and what it still owes for it. In state
`(g, j)` the pairs before `g` are finished, `g` has taken `j` steps, and the others none. Each step theorem moves
the state by one step past one operation of the program.
-/
module

public import proofs.«01_k».proof.Proof.Schedule

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One treatment of all pairs: what is held (`X`) and owed (`T`) for a pair after so many of its `last` steps, what
is owed besides (`rest`), and a level all of that lies above. -/
structure Phase (F : FTy → Type) where
  last : ℕ
  X : Fin 16 → ℕ → sProp (MM F)
  T : Fin 16 → ℕ → CellTallies nD τ sig Unit
  rest : CellTallies nD τ sig Unit
  lev : ℕ
  above : ∀ i j, Above lev (T i j)
  above_rest : Above lev rest

/-- How many steps pair `i` has taken in state `(g, j)`. -/
def stage (last g j : ℕ) (i : Fin 16) : ℕ := if i.val < g then last else if i.val = g then j else 0

theorem stage_self (last g j : ℕ) (hg : g < 16) : stage last g j ⟨g, hg⟩ = j := by unfold stage; rw [if_neg (lt_irrefl _), if_pos rfl]
theorem stage_other (last g j j' : ℕ) (i : Fin 16) (h : i.val ≠ g) : stage last g j i = stage last g j' i := by
  unfold stage; rw [if_neg h, if_neg h]
theorem stage_next (last g : ℕ) : stage last g last = stage last (g + 1) 0 := funext fun i => by
  unfold stage; by_cases h : i.val < g
  · rw [if_pos h, if_pos (by omega)]
  · rw [if_neg h]; by_cases h' : i.val = g
    · rw [if_pos h', if_pos (by omega)]
    · rw [if_neg h', if_neg (by omega), ite_self]
theorem stage_first (last : ℕ) (i : Fin 16) : stage last 0 0 i = 0 := by unfold stage; rw [if_neg (by omega), ite_self]
theorem stage_end (last : ℕ) (i : Fin 16) : stage last 16 0 i = last := if_pos i.isLt

variable (V : Args F) (K : Dev nD × CI → ℕ) (p : Phase F) (c : Dev nD)

/-- State `(g, j)` of a treatment. -/
def Phase.at (g j : ℕ) : sProp (MM F) :=
  iprop(Pers V K ∗ (bigSep Finset.univ fun i => p.X i (stage p.last g j i)) ∗ Owe c ((∑ i, p.T i (stage p.last g j i)) + p.rest))

theorem Phase.at_next (g : ℕ) : p.at V K c g p.last = p.at V K c (g + 1) 0 := by unfold Phase.at; rw [stage_next]

/-- The state before the first step. -/
theorem Phase.begin : iprop(Pers V K ∗ (bigSep Finset.univ fun i => p.X i 0) ∗ Owe c ((∑ i, p.T i 0) + p.rest)) ⊢ p.at V K c 0 0 := by
  unfold Phase.at; simp only [stage_first]; exact .rfl
/-- The state after the last step. -/
theorem Phase.finish : p.at V K c 16 0 ⊢ iprop(Pers V K ∗ (bigSep Finset.univ fun i => p.X i p.last) ∗ Owe c ((∑ i, p.T i p.last) + p.rest)) := by
  unfold Phase.at; simp only [stage_end]; exact .rfl

/-- What is held and owed for the pairs other than `g`. -/
def Phase.others (g : ℕ) (hg : g < 16) : sProp (MM F) := bigSep (Finset.univ.erase (⟨g, hg⟩ : Fin 16)) fun i => p.X i (stage p.last g 0 i)
def Phase.owing (g : ℕ) (hg : g < 16) : CellTallies nD τ sig Unit :=
  (∑ i ∈ Finset.univ.erase (⟨g, hg⟩ : Fin 16), p.T i (stage p.last g 0 i)) + p.rest

theorem Phase.above_owing (g : ℕ) (hg : g < 16) : Above p.lev (p.owing g hg) := (Above.sum _ fun _ => p.above _ _).add p.above_rest

/-- State `(g, j)` is what is held for `g`, and the others. -/
theorem Phase.at_eq (g j : ℕ) (hg : g < 16) : p.at V K c g j
    = iprop(Pers V K ∗ (p.X ⟨g, hg⟩ j ∗ p.others g hg) ∗ Owe c (p.T ⟨g, hg⟩ j + p.owing g hg)) := by
  unfold Phase.at Phase.others Phase.owing
  rw [bigSep_erase (Finset.mem_univ (⟨g, hg⟩ : Fin 16)), ← Finset.add_sum_erase _ _ (Finset.mem_univ (⟨g, hg⟩ : Fin 16)), stage_self, add_assoc]
  have h : ∀ i ∈ Finset.univ.erase (⟨g, hg⟩ : Fin 16), stage p.last g j i = stage p.last g 0 i := fun i hi =>
    stage_other _ _ _ _ _ fun h => (Finset.mem_erase.mp hi).1 (Fin.ext h)
  rw [bigSep_congr fun i hi => by rw [h i hi], Finset.sum_congr rfl fun i hi => by rw [h i hi]]
  rfl

variable {V K p c}

/-- One operation of the treatment of pair `g`. -/
theorem Phase.step {α β : Type} {g j : ℕ} (j' : ℕ) (hg : g < 16) {P : α → Prop} {s : Code F α} {k : α → Code F β} {Q : β → sProp (MM F)} {R : sProp (MM F)}
    (h : ∀ O, Above p.lev O → iprop(Pers V K ∗ p.X ⟨g, hg⟩ j ∗ Owe c (p.T ⟨g, hg⟩ j + O))
      ⊢ wpD c s fun v => iprop(⌜P v⌝ ∗ p.X ⟨g, hg⟩ j' ∗ Owe c (p.T ⟨g, hg⟩ j' + O)))
    (hr : ∀ v, P v → iprop(p.at V K c g j' ∗ R) ⊢ wpD c (k v) Q) :
    iprop(p.at V K c g j ∗ R) ⊢ wpD c (s >>= k) Q := by
  unfold wpD
  rw [wp_bind, p.at_eq V K c g j hg]
  have h1 := h _ (p.above_owing g hg)
  have h2 : ∀ v, iprop((⌜P v⌝ ∗ p.X ⟨g, hg⟩ j' ∗ Owe c (p.T ⟨g, hg⟩ j' + p.owing g hg)) ∗ (Pers V K ∗ p.others g hg ∗ R)) ⊢ wpD c (k v) Q := fun v => by
    iintro ⟨⟨%hP, HX, HO⟩, #HP, Hoth, HR⟩
    iapply (hr v hP)
    rw [p.at_eq V K c g j' hg]
    isplitr [HR]
    · isplitr; · iexact HP
      isplitl [HX Hoth]; · isplitl [HX] <;> iassumption
      iexact HO
    iexact HR
  have h0 : iprop((Pers V K ∗ (p.X ⟨g, hg⟩ j ∗ p.others g hg) ∗ Owe c (p.T ⟨g, hg⟩ j + p.owing g hg)) ∗ R)
      ⊢ iprop((Pers V K ∗ p.X ⟨g, hg⟩ j ∗ Owe c (p.T ⟨g, hg⟩ j + p.owing g hg)) ∗ (Pers V K ∗ p.others g hg ∗ R)) := by
    iintro ⟨⟨#HP, ⟨HX, Hoth⟩, HO⟩, HR⟩
    isplitl [HX HO]
    · isplitr; · iexact HP
      isplitl [HX] <;> iassumption
    isplitr; · iexact HP
    isplitl [Hoth] <;> iassumption
  exact h0.trans ((sep_mono_left h1).trans ((wp_frame_r _ _ _).trans (wp_mono _ _ _ h2)))

/-- One operation on the device's own buffers. -/
theorem Phase.local {α β : Type} {g j : ℕ} (j' : ℕ) (hg : g < 16) {P : α → Prop} {s : Code F α} {k : α → Code F β} {Q : β → sProp (MM F)} {R : sProp (MM F)}
    (hT : p.T ⟨g, hg⟩ j' = p.T ⟨g, hg⟩ j)
    (h : p.X ⟨g, hg⟩ j ⊢ wpD c s fun v => iprop(⌜P v⌝ ∗ p.X ⟨g, hg⟩ j'))
    (hr : ∀ v, P v → iprop(p.at V K c g j' ∗ R) ⊢ wpD c (k v) Q) :
    iprop(p.at V K c g j ∗ R) ⊢ wpD c (s >>= k) Q := by
  refine Phase.step j' hg (P := P) (fun O _ => ?_) hr
  rw [hT]
  refine sep_elim_right.trans ((sep_mono_left h).trans ((wp_frame_r _ _ _).trans (wp_mono _ _ _ fun v => ?_)))
  exact sep_assoc.1

/-- A part done only if `b` says so: otherwise nothing is run. -/
theorem Phase.branch {β : Type} {g j : ℕ} (j' : ℕ) (hg : g < 16) {b : BitVec 1} {s : b = 1#1 → Code F β} {k : Code F β} {Q : β → sProp (MM F)} {R : sProp (MM F)}
    (hy : ∀ h, iprop(p.at V K c g j ∗ R) ⊢ wpD c (s h) Q)
    (hn : b ≠ 1#1 → p.T ⟨g, hg⟩ j' = p.T ⟨g, hg⟩ j ∧ (iprop(Pers V K ∗ p.X ⟨g, hg⟩ j) ⊢ iprop(|={Set.univ}=> p.X ⟨g, hg⟩ j')))
    (hr : iprop(p.at V K c g j' ∗ R) ⊢ wpD c k Q) :
    iprop(p.at V K c g j ∗ R) ⊢ wpD c (dite (b = 1#1) s (fun _ => k)) Q := by
  split
  · rename_i h; exact hy h
  · rename_i h
    obtain ⟨hT, hX⟩ := hn h
    have h0 : iprop(p.at V K c g j ∗ R) ⊢ iprop(|={Set.univ}=> (p.at V K c g j' ∗ R)) := by
      rw [p.at_eq V K c g j hg, p.at_eq V K c g j' hg, hT]
      iintro ⟨⟨#HP, ⟨HX, Hoth⟩, HO⟩, HR⟩
      imod hX $$ [HX] with HX
      · isplitr; · iexact HP
        iexact HX
      imodintro
      isplitr [HR]
      · isplitr; · iexact HP
        isplitl [HX Hoth]; · isplitl [HX] <;> iassumption
        iexact HO
      iexact HR
    exact h0.trans ((fupd_mono hr).trans (fupd_wp _ _ _ _ _))

/-- The same, where the part is one operation. -/
theorem Phase.guarded {β : Type} {g j : ℕ} (j' : ℕ) (hg : g < 16) {b : BitVec 1} {s : b = 1#1 → Code F PUnit} {k : Code F β} {Q : β → sProp (MM F)} {R : sProp (MM F)}
    (hy : ∀ h O, Above p.lev O → iprop(Pers V K ∗ p.X ⟨g, hg⟩ j ∗ Owe c (p.T ⟨g, hg⟩ j + O))
      ⊢ wpD c (s h) fun _ => iprop(p.X ⟨g, hg⟩ j' ∗ Owe c (p.T ⟨g, hg⟩ j' + O)))
    (hn : b ≠ 1#1 → p.T ⟨g, hg⟩ j' = p.T ⟨g, hg⟩ j ∧ (iprop(Pers V K ∗ p.X ⟨g, hg⟩ j) ⊢ iprop(|={Set.univ}=> p.X ⟨g, hg⟩ j')))
    (hr : iprop(p.at V K c g j' ∗ R) ⊢ wpD c k Q) :
    iprop(p.at V K c g j ∗ R) ⊢ wpD c (dite (b = 1#1) (fun h => s h >>= fun _ => k) (fun _ => k)) Q :=
  Phase.branch j' hg (fun h => Phase.step j' hg (P := fun _ => True) (fun O hO => (hy h O hO).trans (wp_mono _ _ _ fun _ => by
    iintro H; isplitr; · ipureintro; trivial
    iexact H)) fun _ _ => hr) hn hr

/-- One operation outside the treatments. -/
theorem frame_step {α β : Type} {P : α → Prop} {s : Code F α} {k : α → Code F β} {A B : sProp (MM F)} {Q : β → sProp (MM F)} {R : sProp (MM F)}
    (h : A ⊢ wpD c s fun v => iprop(⌜P v⌝ ∗ B)) (hr : ∀ v, P v → iprop(B ∗ R) ⊢ wpD c (k v) Q) :
    iprop(A ∗ R) ⊢ wpD c (s >>= k) Q := by
  unfold wpD
  rw [wp_bind]
  refine (sep_mono_left h).trans ((wp_frame_r _ _ _).trans (wp_mono _ _ _ fun v => ?_))
  iintro ⟨⟨%hP, HB⟩, HR⟩
  iapply (hr v hP)
  isplitl [HB] <;> iassumption

end Cert.Combine

end
-- ==== Proof.PhaseBar.lean ====
/-
The first exchange of signals: what a device owes in the whole run, and its signals to its peers.
-/
module

public import proofs.«01_k».proof.Proof.Loop

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What a device owes -/

/-- To each peer's barrier one unit. -/
def oweBar (c : Dev nD) (r : Fin 16) : CellTallies nD τ sig Unit := tallyAt (barCell (peer c r)) () 1
/-- To its partner the arrival of each block. -/
def oweX (c : Dev nD) (g : Fin 16) : CellTallies nD τ sig Unit := tallyAt (dmaCell (partner c) 1 g) () N
/-- To each other member of its team the arrival of its combined block. -/
def oweR (c : Dev nD) (r : Fin 16) : CellTallies nD τ sig Unit :=
  if r = rank c then 0 else tallyAt (dmaCell (peer c r) 3 (rank c)) () N

theorem oweBar_above (c : Dev nD) (r : Fin 16) : Above 0 (oweBar c r) := Above.tally _ (by rw [lv_bar]; decide)
theorem oweX_above (c : Dev nD) (g : Fin 16) : Above 1 (oweX c g) := Above.tally _ (by rw [lv_dma]; show 1 < 2; decide)
theorem oweR_above (c : Dev nD) (r : Fin 16) : Above 2 (oweR c r) :=
  Above.ite (Above.zero _) (Above.tally _ (by rw [lv_dma]; show 2 < 3; decide))
theorem Above.weaken {l l' : ℕ} {O : CellTallies nD τ sig Unit} (h : Above l O) (hl : l' ≤ l) : Above l' O := fun g u hg =>
  ⟨(h g u hg).1, lt_of_le_of_lt hl (h g u hg).2⟩

/-- All blocks still to be sent to the partner, and all combined blocks. -/
def oweXR (c : Dev nD) : CellTallies nD τ sig Unit := (∑ g, oweX c g) + ∑ r, oweR c r
theorem oweXR_above (c : Dev nD) : Above 1 (oweXR c) := (Above.sum _ (oweX_above c)).add (Above.sum _ fun r => (oweR_above c r).weaken (by decide))

/-! ## The signals -/

/-- The signals to the team's other members, by rank; the one to the partner comes before. -/
def phBar (c : Dev nD) : Phase F where
  last := 1
  X i j := if j = 0 then (if i = rank c then iprop(emp) else iprop(barTok c i ∗ handed c i)) else iprop(emp)
  T i j := if j = 0 then (if i = rank c then 0 else oweBar c i) else 0
  rest := oweXR c
  lev := 0
  above i j := Above.ite (Above.ite (Above.zero _) (oweBar_above c i)) (Above.zero _)
  above_rest := (oweXR_above c).weaken (by decide)

variable {V : Args F} {K : Dev nD × CI → ℕ} {c : Dev nD}

/-- The signal to rank `g`, guarded by being of another rank. -/
theorem step_signal {β : Type} {g : ℕ} {b : Dev nD → BitVec 1} {dn : Dev nD → ℕ} {dlt : ∀ c, b c = 1#1 → dn c < nD} {k : Code F β} {Q : β → sProp (MM F)} {R : sProp (MM F)}
    (hr : iprop((phBar c).at V K c (g + 1) 0 ∗ R) ⊢ wpD c k Q)
    (hg : g < 16 := by decide)
    (hb : ∀ c, Iff (b c = 1#1) (rank c ≠ ⟨g, hg⟩) := by decide +kernel)
    (hdv : ∀ c, b c = 1#1 → dn c = (peer c ⟨g, hg⟩).val := by decide +kernel) :
    iprop((phBar c).at V K c g 0 ∗ R)
      ⊢ wpD c (dite (b c = 1#1) (fun h => semSignalWord ⟨dn c, dlt c h⟩ barS 1#32 >>= fun _ => k) (fun _ => k)) Q := by
  refine Phase.guarded 1 hg (fun h O _ => ?_) (fun h => ?_) (by rw [show (phBar c : Phase F).at V K c g 1 = (phBar c).at V K c (g + 1) 0 from Phase.at_next _ _ _ _ _]; exact hr)
  · have hne : (⟨g, hg⟩ : Fin 16) ≠ rank c := ((hb c).mp h).symm
    rw [show (⟨dn c, dlt c h⟩ : Dev nD) = peer c ⟨g, hg⟩ from Fin.ext (hdv c h)]
    dsimp only [phBar]
    rw [if_pos rfl, if_neg hne, if_pos rfl, if_neg hne, if_neg Nat.one_ne_zero, if_neg Nat.one_ne_zero]
    have h0 : iprop(Pers V K ∗ (barTok c ⟨g, hg⟩ ∗ handed c ⟨g, hg⟩) ∗ Owe c (oweBar c ⟨g, hg⟩ + O))
        ⊢ iprop(Pers V K ∗ barTok c ⟨g, hg⟩ ∗ handed c ⟨g, hg⟩ ∗ Owe c (oweBar c ⟨g, hg⟩ + O)) := by
      iintro ⟨H1, ⟨H2, H3⟩, H4⟩
      isplitl [H1]; · iexact H1
      isplitl [H2]; · iexact H2
      isplitl [H3] <;> iassumption
    refine h0.trans ((signal_at V K c ⟨g, hg⟩ O).trans (wp_mono _ _ _ fun _ => ?_))
    rw [zero_add]
    iintro H; isplitr; · iempintro
    iexact H
  · have hne : (⟨g, hg⟩ : Fin 16) = rank c := by
      by_contra h'; exact h ((hb c).mpr fun e => h' e.symm)
    dsimp only [phBar]
    rw [if_pos rfl, if_pos hne, if_pos rfl, if_pos hne, if_neg Nat.one_ne_zero, if_neg Nat.one_ne_zero]
    refine ⟨rfl, ?_⟩
    iintro -; imodintro; iempintro

end Cert.Combine

end
-- ==== Proof.PhaseStore.lean ====
/-
The device's partial product, stored block by block: slot `g` of the first buffer gets the block for member 0 of
pair `g`, slot `g` of the second that for member 1.
-/
module

public import proofs.«01_k».proof.Proof.PhaseBar

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The two stores for each pair. -/
def phStore (V : Args F) (c : Dev nD) : Phase F where
  last := 2
  X i j := iprop((if j = 0 then anyAt c b0M i else held c b0M i (blkV V 0 c i)) ∗ (if j ≤ 1 then anyAt c b1M i else held c b1M i (blkV V 1 c i)))
  T _ _ := 0
  rest := oweXR c
  lev := 0
  above _ _ := Above.zero _
  above_rest := (oweXR_above c).weaken (by decide)

variable {V : Args F} {K : Dev nD × CI → ℕ} {c : Dev nD}

theorem with_true {α : Type} {s : Code F α} {A B : sProp (MM F)} (h : A ⊢ wpD c s fun _ => B) : A ⊢ wpD c s fun _ => iprop(⌜True⌝ ∗ B) :=
  h.trans (wp_mono _ _ _ fun _ => by
    iintro H; isplitr; · ipureintro; trivial
    iexact H)

/-- The load from the first buffer before its store. -/
theorem step_peek0 {β : Type} {g : ℕ} {off : Fin 3 → ℕ} {inb hl} {k : Vec F S1x32x1024 .bf16 → Code F β} {Q : β → sProp (MM F)} {R : sProp (MM F)}
    (hr : ∀ v, iprop((phStore V c).at V K c g 0 ∗ R) ⊢ wpD c (k v) Q)
    (hg : g < 16 := by decide) (hoff : off = ![g, 0, 0] := by rfl) :
    iprop((phStore V c).at V K c g 0 ∗ R)
      ⊢ wpD c (Prog.lift (TpuEff.load b0M (Rect.unit (s := S16x32x1024) off S1x32x1024.size inb).toLoadRect hl) >>= k) Q := by
  refine Phase.local (P := fun _ => True) 0 hg rfl (with_true ?_) fun v _ => hr v
  dsimp only [phStore]; rw [if_pos rfl]
  exact (sep_mono_left (load_any (g := ⟨g, hg⟩) hoff)).trans (wp_frame_r _ _ _)

/-- The store to the first buffer. -/
theorem step_store0 {β : Type} {g : ℕ} {off : Fin 3 → ℕ} {inb hx hm} {w : Vec F S1x32x1024 .bf16} {k : PUnit → Code F β} {Q : β → sProp (MM F)} {R : sProp (MM F)}
    (hr : iprop((phStore V c).at V K c g 1 ∗ R) ⊢ wpD c (k ⟨⟩) Q)
    (hg : g < 16 := by decide) (hoff : off = ![g, 0, 0] := by rfl) (hw : w = blkV V 0 c ⟨g, hg⟩ := by rfl) :
    iprop((phStore V c).at V K c g 0 ∗ R)
      ⊢ wpD c (Prog.lift (TpuEff.store b0M (Rect.unit (s := S16x32x1024) off S1x32x1024.size inb) w Finset.univ hx hm) >>= k) Q := by
  refine Phase.local (P := fun _ => True) 1 hg rfl (with_true ?_) fun v _ => hr
  dsimp only [phStore]; rw [if_pos rfl, if_neg Nat.one_ne_zero, hw]
  exact (sep_mono_left (store_slot (g := ⟨g, hg⟩) hoff)).trans (wp_frame_r _ _ _)

/-- The load from the second buffer before its store. -/
theorem step_peek1 {β : Type} {g : ℕ} {off : Fin 3 → ℕ} {inb hl} {k : Vec F S1x32x1024 .bf16 → Code F β} {Q : β → sProp (MM F)} {R : sProp (MM F)}
    (hr : ∀ v, iprop((phStore V c).at V K c g 1 ∗ R) ⊢ wpD c (k v) Q)
    (hg : g < 16 := by decide) (hoff : off = ![g, 0, 0] := by rfl) :
    iprop((phStore V c).at V K c g 1 ∗ R)
      ⊢ wpD c (Prog.lift (TpuEff.load b1M (Rect.unit (s := S16x32x1024) off S1x32x1024.size inb).toLoadRect hl) >>= k) Q := by
  refine Phase.local (P := fun _ => True) 1 hg rfl (with_true ?_) fun v _ => hr v
  dsimp only [phStore]; rw [if_pos le_rfl]
  exact (sep_mono_right (load_any (g := ⟨g, hg⟩) hoff)).trans (wp_frame_l _ _ _)

/-- The store to the second buffer. -/
theorem step_store1 {β : Type} {g : ℕ} {off : Fin 3 → ℕ} {inb hx hm} {w : Vec F S1x32x1024 .bf16} {k : PUnit → Code F β} {Q : β → sProp (MM F)} {R : sProp (MM F)}
    (hr : iprop((phStore V c).at V K c (g + 1) 0 ∗ R) ⊢ wpD c (k ⟨⟩) Q)
    (hg : g < 16 := by decide) (hoff : off = ![g, 0, 0] := by rfl) (hw : w = blkV V 1 c ⟨g, hg⟩ := by rfl) :
    iprop((phStore V c).at V K c g 1 ∗ R)
      ⊢ wpD c (Prog.lift (TpuEff.store b1M (Rect.unit (s := S16x32x1024) off S1x32x1024.size inb) w Finset.univ hx hm) >>= k) Q := by
  refine Phase.local (P := fun _ => True) 2 hg rfl (with_true ?_) fun v _ => by
    rw [show (phStore V c).at V K c g 2 = (phStore V c).at V K c (g + 1) 0 from Phase.at_next _ _ _ _ _]; exact hr
  dsimp only [phStore]; rw [if_pos le_rfl, if_neg (by decide : ¬ 2 ≤ 1), hw, if_neg Nat.one_ne_zero, if_neg (by decide : ¬ 2 = 0)]
  exact (sep_mono_right (store_slot (g := ⟨g, hg⟩) hoff)).trans (wp_frame_l _ _ _)

end Cert.Combine

end
-- ==== Proof.PhaseX.lean ====
/-
The exchange within pairs: each device sends its partner the sixteen blocks the partner collects.
-/
module

public import proofs.«01_k».proof.Proof.PhaseStore

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What sending block `i` to the partner takes: the block, the partner's slot, and the two tokens. -/
def preX (V : Args F) (c : Dev nD) (i : Fin 16) : sProp (MM F) :=
  iprop(held c (bufB (1 - team c)) i (blkV V (1 - team c) c i) ∗ anyAt (partner c) xM i ∗ dmaTok c 0 i ∗ dmaTok (partner c) 1 i)

/-- The sends to the partner. Each is written twice: step 0 runs on devices of team 0, step 1 on those of team 1. -/
def phX (V : Args F) (c : Dev nD) : Phase F where
  last := 2
  X i j := if j ≤ (team c).val then preX V c i else dmaCred c 0 i
  T i j := if j ≤ (team c).val then oweX c i else 0
  rest := ∑ r, oweR c r
  lev := 0
  above i j := Above.ite ((oweX_above c i).weaken (by decide)) (Above.zero _)
  above_rest := Above.sum _ fun r => (oweR_above c r).weaken (by decide)

variable {V : Args F} {K : Dev nD × CI → ℕ} {c : Dev nD}

/-- Sending block `g` to the partner. -/
theorem send_x (g : Fin 16) {M : Sixteen} (hM : M = bufB (1 - team c)) {hsc hsrc hdst hsem} (O : CellTallies nD τ sig Unit) :
    iprop(Pers V K ∗ preX V c g ∗ Owe c (oweX c g + O))
      ⊢ wpD c (Prog.lift (TpuEff.enqueueDma (slot M g) (.remote (partner c : Thread nD τ) (slot xM g) (.dma (semAt cc0_scratch5 g)) hsc)
          (.dma (semAt cc0_scratch6 g)) hsrc hdst hsem)) (fun _ => iprop(dmaCred c 0 g ∗ Owe c O)) := by
  subst hM
  have h := send_at V K c (partner c) 0 1 g g (fun h => absurd h.1 (by decide)) (fun h => absurd h.1 (by decide))
    (src := slot (bufB (1 - team c)) g) (dst := slot xM g) (X := blkV V (1 - team c) c g) (hsc := hsc) (hsrc := hsrc) (hdst := hdst) (hsem := hsem)
    rfl .rfl (by show _ ⊢ held (partner c) xM g _; rw [team_partner, partner_partner]) O
  unfold preX anyAt oweX
  exact h

/-- One of the two sends of block `g`: run on team `t` only. `dn c` is the number of the device it goes to. -/
theorem step_sendX {β : Type} {g : ℕ} (t : Fin 2) {b : Dev nD → BitVec 1} (dn : Dev nD → ℕ) (dlt : ∀ c, b c = 1#1 → dn c < nD) {M : Sixteen}
    {s : b c = 1#1 → Code F β} {k : Code F β} {Q : β → sProp (MM F)} {R : sProp (MM F)} (hg : g < 16)
    (hr : iprop((phX V c).at V K c g (t.val + 1) ∗ R) ⊢ wpD c k Q)
    (hM : M = bufB (1 - t))
    (hb : ∀ c, Iff (b c = 1#1) (team c = t))
    (hdv : ∀ c, b c = 1#1 → dn c = (partner c).val)
    (hs : ∀ h, ∃ hsc hsrc hdst hsem, s h = (Prog.lift (TpuEff.enqueueDma (slot M ⟨g, hg⟩)
          (.remote (Dev.tc (⟨dn c, dlt c h⟩ : Dev nD)) (slot xM ⟨g, hg⟩) (.dma (semAt cc0_scratch5 ⟨g, hg⟩)) hsc)
          (.dma (semAt cc0_scratch6 ⟨g, hg⟩)) hsrc hdst hsem) >>= fun _ => k)) :
    iprop((phX V c).at V K c g t.val ∗ R) ⊢ wpD c (dite (b c = 1#1) s (fun _ => k)) Q := by
  refine Phase.branch (t.val + 1) hg (fun h => ?_) (fun h => ?_) hr
  · obtain ⟨hsc, hsrc, hdst, hsem, he⟩ := hs h
    rw [he]
    refine Phase.step (t.val + 1) hg (P := fun _ => True) (fun O _ => with_true ?_) fun _ _ => hr
    have ht := (hb c).mp h
    have hd : dn c = (partner c).val := hdv c h
    dsimp only [phX]
    rw [ht, if_pos le_rfl, if_pos le_rfl, if_neg (by omega), if_neg (by omega), zero_add]
    have he : (⟨dn c, dlt c h⟩ : Dev nD) = partner c := Fin.ext hd
    generalize (⟨dn c, dlt c h⟩ : Dev nD) = d at *
    subst he
    exact send_x ⟨g, hg⟩ (by rw [ht]; exact hM) O
  · have ht : team c ≠ t := fun e => h ((hb c).mpr e)
    have hiff : Iff (t.val + 1 ≤ (team c).val) (t.val ≤ (team c).val) := by
      have : (team c).val ≠ t.val := fun e => ht (Fin.ext e)
      omega
    dsimp only [phX]
    simp only [hiff, true_and]
    iintro ⟨-, H⟩; imodintro; iexact H

/-- The send of block `g` on team 0. -/
theorem step_send0 {β : Type} {g : ℕ} {b : Dev nD → BitVec 1} (dn : Dev nD → ℕ) (dlt : ∀ c, b c = 1#1 → dn c < nD)
    {s : b c = 1#1 → Code F β} {k : Code F β} {Q : β → sProp (MM F)} {R : sProp (MM F)}
    (hr : iprop((phX V c).at V K c g 1 ∗ R) ⊢ wpD c k Q)
    (hg : g < 16 := by decide)
    (hb : ∀ c, Iff (b c = 1#1) (team c = 0) := by decide +kernel)
    (hdv : ∀ c, b c = 1#1 → dn c = (partner c).val := by decide +kernel)
    (hs : ∀ h, ∃ hsc hsrc hdst hsem, s h = (Prog.lift (TpuEff.enqueueDma (slot b1M ⟨g, hg⟩)
          (.remote (Dev.tc (⟨dn c, dlt c h⟩ : Dev nD)) (slot xM ⟨g, hg⟩) (.dma (semAt cc0_scratch5 ⟨g, hg⟩)) hsc)
          (.dma (semAt cc0_scratch6 ⟨g, hg⟩)) hsrc hdst hsem) >>= fun _ => k) := by intro h; exact ⟨_, _, _, _, rfl⟩) :
    iprop((phX V c).at V K c g 0 ∗ R) ⊢ wpD c (dite (b c = 1#1) s (fun _ => k)) Q :=
  step_sendX 0 dn dlt hg hr rfl hb hdv hs

/-- The send of block `g` on team 1. -/
theorem step_send1 {β : Type} {g : ℕ} {b : Dev nD → BitVec 1} (dn : Dev nD → ℕ) (dlt : ∀ c, b c = 1#1 → dn c < nD)
    {s : b c = 1#1 → Code F β} {k : Code F β} {Q : β → sProp (MM F)} {R : sProp (MM F)}
    (hr : iprop((phX V c).at V K c (g + 1) 0 ∗ R) ⊢ wpD c k Q)
    (hg : g < 16 := by decide)
    (hb : ∀ c, Iff (b c = 1#1) (team c = 1) := by decide +kernel)
    (hdv : ∀ c, b c = 1#1 → dn c = (partner c).val := by decide +kernel)
    (hs : ∀ h, ∃ hsc hsrc hdst hsem, s h = (Prog.lift (TpuEff.enqueueDma (slot b0M ⟨g, hg⟩)
          (.remote (Dev.tc (⟨dn c, dlt c h⟩ : Dev nD)) (slot xM ⟨g, hg⟩) (.dma (semAt cc0_scratch5 ⟨g, hg⟩)) hsc)
          (.dma (semAt cc0_scratch6 ⟨g, hg⟩)) hsrc hdst hsem) >>= fun _ => k) := by intro h; exact ⟨_, _, _, _, rfl⟩) :
    iprop((phX V c).at V K c g 1 ∗ R) ⊢ wpD c (dite (b c = 1#1) s (fun _ => k)) Q :=
  step_sendX 1 dn dlt hg (by rw [show (phX V c).at V K c g ((1 : Fin 2).val + 1) = (phX V c).at V K c (g + 1) 0 from Phase.at_next _ _ _ _ _]; exact hr) rfl hb hdv hs

end Cert.Combine

end
-- ==== Proof.PhaseMain.lean ====
/-
The main loop: for each pair, wait for the partner's block, add it to the own one, and send the sum to the pair's
member of the same team.
-/
module

public import proofs.«01_k».proof.Proof.PhaseX

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The device's own block for its team's member of pair `i`. -/
abbrev mine (V : Args F) (c : Dev nD) (i : Fin 16) : sProp (MM F) := held c (bufB (team c)) i (blkV V (team c) c i)
/-- The partner's block for the same member, with its cell closed. -/
abbrev theirs (V : Args F) (c : Dev nD) (i : Fin 16) : sProp (MM F) := iprop(dmaEnd c 1 i ∗ held c xM i (blkV V (team c) (partner c) i))
/-- What sending a combined block to rank `i` takes: the slot there and the two tokens. -/
def preR (c : Dev nD) (i : Fin 16) : sProp (MM F) :=
  if i = rank c then iprop(emp) else iprop(anyAt (peer c i) rM (rank c) ∗ dmaTok c 2 i ∗ dmaTok (peer c i) 3 (rank c))
/-- After the send, the credit for its departure; the block for the device's own rank stays. -/
def sentR (V : Args F) (c : Dev nD) (i : Fin 16) : sProp (MM F) :=
  if i = rank c then held c cM i (combV V c i) else dmaCred c 2 i
/-- Slot `i` of the combined blocks, filled if `b`. -/
def fill (V : Args F) (c : Dev nD) (i : Fin 16) (b : Prop) [Decidable b] : sProp (MM F) := if b then held c cM i (combV V c i) else anyAt c cM i

/-- What is held for pair `i` after `j` steps. -/
def mainX (V : Args F) (c : Dev nD) (i : Fin 16) : ℕ → sProp (MM F)
  | 0 => iprop((dmaCred c 1 i ∗ dmaPos c 1 i) ∗ mine V c i ∗ anyAt c cM i ∗ preR c i)
  | 1 => iprop(theirs V c i ∗ mine V c i ∗ anyAt c cM i ∗ preR c i)
  | 2 => iprop(theirs V c i ∗ mine V c i ∗ fill V c i (team c = 0) ∗ preR c i)
  | 3 => iprop(theirs V c i ∗ mine V c i ∗ held c cM i (combV V c i) ∗ preR c i)
  | _ => iprop(theirs V c i ∗ mine V c i ∗ sentR V c i)

/-- The four steps: the wait, the addition on team 0, the addition on team 1, the send. -/
def phMain (V : Args F) (c : Dev nD) : Phase F where
  last := 4
  X i j := mainX V c i j
  T i j := if j < 4 then oweR c i else 0
  rest := 0
  lev := 2
  above i j := Above.ite (oweR_above c i) (Above.zero _)
  above_rest := Above.zero _

variable {V : Args F} {K : Dev nD × CI → ℕ} {c : Dev nD}

/-- The wait for the partner's block. -/
theorem step_arrive {β : Type} {g : ℕ} {s : Code F PUnit} {k : PUnit → Code F β} {Q : β → sProp (MM F)} {R : sProp (MM F)}
    (hr : iprop((phMain V c).at V K c g 1 ∗ R) ⊢ wpD c (k ⟨⟩) Q)
    (hg : g < 16 := by decide)
    (hs : ∃ h1 h2, s = waitCode (semAt cc0_scratch6 ⟨g, hg⟩) (slot b0M ⟨g, hg⟩) (slot xM ⟨g, hg⟩) h1 h2 := by exact ⟨_, _, rfl⟩) :
    iprop((phMain V c).at V K c g 0 ∗ R) ⊢ wpD c (s >>= k) Q := by
  obtain ⟨h1, h2, rfl⟩ := hs
  refine Phase.step 1 hg (P := fun _ => True) (fun O hO => with_true ?_) fun _ _ => hr
  have hT : (phMain V c).T ⟨g, hg⟩ 1 = (phMain V c).T ⟨g, hg⟩ 0 := rfl
  rw [hT]
  have hA : Above 2 ((phMain V c).T ⟨g, hg⟩ 0 + O) := ((phMain V c).above _ _).add hO
  generalize (phMain V c).T ⟨g, hg⟩ 0 + O = O' at hA
  show iprop(Pers V K ∗ ((dmaCred c 1 ⟨g, hg⟩ ∗ dmaPos c 1 ⟨g, hg⟩) ∗ mine V c ⟨g, hg⟩ ∗ anyAt c cM ⟨g, hg⟩ ∗ preR c ⟨g, hg⟩) ∗ Owe c O')
    ⊢ wpD c _ fun _ => iprop((theirs V c ⟨g, hg⟩ ∗ mine V c ⟨g, hg⟩ ∗ anyAt c cM ⟨g, hg⟩ ∗ preR c ⟨g, hg⟩) ∗ Owe c O')
  have hw := wait_dma V K c 1 ⟨g, hg⟩ (fun h => absurd h.1 (by decide)) 2 le_rfl (src := slot b0M ⟨g, hg⟩) (dst := slot xM ⟨g, hg⟩) (h1 := h1) (h2 := h2)
    rfl O' hA
  have h0 : iprop(Pers V K ∗ ((dmaCred c 1 ⟨g, hg⟩ ∗ dmaPos c 1 ⟨g, hg⟩) ∗ mine V c ⟨g, hg⟩ ∗ anyAt c cM ⟨g, hg⟩ ∗ preR c ⟨g, hg⟩) ∗ Owe c O')
      ⊢ iprop((Pers V K ∗ (dmaCred c 1 ⟨g, hg⟩ ∗ dmaPos c 1 ⟨g, hg⟩) ∗ Owe c O') ∗ (mine V c ⟨g, hg⟩ ∗ anyAt c cM ⟨g, hg⟩ ∗ preR c ⟨g, hg⟩)) := by
    iintro ⟨HP, ⟨Hw, Hr⟩, HO⟩
    isplitr [Hr]
    · isplitl [HP]; · iexact HP
      isplitl [Hw] <;> iassumption
    iexact Hr
  refine h0.trans ((sep_mono_left hw).trans ((wp_frame_r _ _ _).trans (wp_mono _ _ _ fun _ => ?_)))
  iintro ⟨⟨Ht, HO⟩, Hr⟩
  isplitr [HO]
  · isplitl [Ht]; · iexact Ht
    iexact Hr
  iexact HO

/-- The program of an addition: the own block and the partner's are loaded, and their combination `w` stored. -/
def addCode {β : Type} (M : Sixteen) (g : Fin 16) (w : Vec F S1x32x1024 .bf16 → Vec F S1x32x1024 .bf16 → Vec F S1x32x1024 .bf16)
    (l1 : M.view.LoadsAt (slotRect g).toLoadRect) (l2 : xM.view.LoadsAt (slotRect g).toLoadRect) (l3 : cM.view.LoadsAt (slotRect g).toLoadRect)
    (x : (cM.access (slotRect g)).Stores Finset.univ) (m : (Finset.univ : Finset (slotRect g).shape.Idx) = Finset.univ ∨ ∀ a, (slotRect g).stride a = 1) (k : Code F β) : Code F β :=
  Prog.lift (TpuEff.load M (slotRect g).toLoadRect l1) >>= fun a => Prog.lift (TpuEff.load xM (slotRect g).toLoadRect l2) >>= fun b =>
    Prog.lift (TpuEff.load cM (slotRect g).toLoadRect l3) >>= fun _ => Prog.lift (TpuEff.store cM (slotRect g) (w a b) Finset.univ x m) >>= fun _ => k

/-- An addition sets its slot to the combination. -/
theorem add_run {β : Type} {M : Sixteen} {g : Fin 16} {A B : Vec F S1x32x1024 .bf16} {w l1 l2 l3 x m} {k : Code F β} {Q : β → sProp (MM F)} {R : sProp (MM F)}
    (hr : iprop(held c cM g (w A B) ∗ held c xM g B ∗ held c M g A ∗ R) ⊢ wpD c k Q) :
    iprop(held c M g A ∗ held c xM g B ∗ anyAt c cM g ∗ R) ⊢ wpD c (addCode M g w l1 l2 l3 x m k) Q := by
  unfold addCode
  refine frame_step (load_slot rfl) fun v hv => ?_
  subst hv
  have h1 : iprop(held c M g v ∗ held c xM g B ∗ anyAt c cM g ∗ R) ⊢ iprop(held c xM g B ∗ anyAt c cM g ∗ held c M g v ∗ R) := by
    iintro ⟨H1, H2, H3, H4⟩
    isplitl [H2]; · iexact H2
    isplitl [H3]; · iexact H3
    isplitl [H1] <;> iassumption
  refine h1.trans (frame_step (load_slot rfl) fun u hu => ?_)
  subst hu
  have h2 : iprop(held c xM g u ∗ anyAt c cM g ∗ held c M g v ∗ R) ⊢ iprop(anyAt c cM g ∗ held c xM g u ∗ held c M g v ∗ R) := by
    iintro ⟨H1, H2, H3⟩
    isplitl [H2]; · iexact H2
    isplitl [H1] <;> iassumption
  refine h2.trans (frame_step (P := fun _ => True) (with_true (load_any rfl)) fun _ _ => ?_)
  exact frame_step (P := fun _ => True) (with_true (store_slot rfl)) fun _ _ => hr

/-- The addition for pair `g` on team `t`: step 1 for team 0, step 2 for team 1. `t'` tells whether the slot is filled before. -/
theorem step_addX {β : Type} {g : ℕ} (t : Fin 2) {b : BitVec 1} {s : b = 1#1 → Code F β} {k : Code F β} {Q : β → sProp (MM F)} {R : sProp (MM F)}
    {M : Sixteen} (hM : M = bufB t) (hg : g < 16) (j : ℕ)
    (hT : (phMain V c).T ⟨g, hg⟩ (j + 1) = (phMain V c).T ⟨g, hg⟩ j)
    (hX : team c = t → mainX V c ⟨g, hg⟩ j = mainX V c ⟨g, hg⟩ 1)
    (hX' : team c = t → mainX V c ⟨g, hg⟩ (j + 1) = mainX V c ⟨g, hg⟩ 3)
    (hne : team c ≠ t → mainX V c ⟨g, hg⟩ (j + 1) = mainX V c ⟨g, hg⟩ j)
    (hb : Iff (b = 1#1) (team c = t))
    (hr : iprop((phMain V c).at V K c g (j + 1) ∗ R) ⊢ wpD c k Q)
    (hs : ∀ h, ∃ w l1 l2 l3 x m, s h = addCode M ⟨g, hg⟩ w l1 l2 l3 x m k ∧ ∀ a b, w a b = k0_pay39 a b) :
    iprop((phMain V c).at V K c g j ∗ R) ⊢ wpD c (dite (b = 1#1) s (fun _ => k)) Q := by
  refine Phase.branch (j + 1) hg (fun h => ?_) (fun h => ?_) hr
  · obtain ⟨w, l1, l2, l3, x, m, he, hw⟩ := hs h
    have ht : team c = t := hb.mp h
    rw [he, Phase.at_eq V K (phMain V c) c g j hg]
    rw [Phase.at_eq V K (phMain V c) c g (j + 1) hg, hT] at hr
    generalize (phMain V c).T ⟨g, hg⟩ j + (phMain V c).owing g hg = O at hr ⊢
    rw [show (phMain V c).X ⟨g, hg⟩ (j + 1) = mainX V c ⟨g, hg⟩ 3 from hX' ht] at hr
    rw [show (phMain V c).X ⟨g, hg⟩ j = mainX V c ⟨g, hg⟩ 1 from hX ht]
    have h0 : iprop((Pers V K ∗ (mainX V c ⟨g, hg⟩ 1 ∗ (phMain V c).others g hg) ∗ Owe c O) ∗ R)
        ⊢ iprop(mine V c ⟨g, hg⟩ ∗ held c xM ⟨g, hg⟩ (blkV V (team c) (partner c) ⟨g, hg⟩) ∗ anyAt c cM ⟨g, hg⟩
          ∗ ((dmaEnd c 1 ⟨g, hg⟩ ∗ preR c ⟨g, hg⟩ ∗ (phMain V c).others g hg) ∗ Pers V K ∗ Owe c O ∗ R)) := by
      show iprop((Pers V K ∗ (((dmaEnd c 1 ⟨g, hg⟩ ∗ held c xM ⟨g, hg⟩ (blkV V (team c) (partner c) ⟨g, hg⟩)) ∗ mine V c ⟨g, hg⟩ ∗ anyAt c cM ⟨g, hg⟩ ∗ preR c ⟨g, hg⟩)
        ∗ (phMain V c).others g hg) ∗ Owe c O) ∗ R) ⊢ _
      iintro ⟨⟨HP, ⟨⟨⟨He, Hx⟩, Hm, Hc, Hp⟩, Ho⟩, HO⟩, HR⟩
      isplitl [Hm]; · iexact Hm
      isplitl [Hx]; · iexact Hx
      isplitl [Hc]; · iexact Hc
      isplitl [He Hp Ho]
      · isplitl [He]; · iexact He
        isplitl [Hp] <;> iassumption
      isplitl [HP]; · iexact HP
      isplitl [HO] <;> iassumption
    have h3 : iprop(held c cM ⟨g, hg⟩ (combV V c ⟨g, hg⟩) ∗ held c xM ⟨g, hg⟩ (blkV V (team c) (partner c) ⟨g, hg⟩) ∗ mine V c ⟨g, hg⟩
          ∗ ((dmaEnd c 1 ⟨g, hg⟩ ∗ preR c ⟨g, hg⟩ ∗ (phMain V c).others g hg) ∗ Pers V K ∗ Owe c O ∗ R))
        ⊢ iprop((Pers V K ∗ (mainX V c ⟨g, hg⟩ 3 ∗ (phMain V c).others g hg) ∗ Owe c O) ∗ R) := by
      show _ ⊢ iprop((Pers V K ∗ (((dmaEnd c 1 ⟨g, hg⟩ ∗ held c xM ⟨g, hg⟩ (blkV V (team c) (partner c) ⟨g, hg⟩)) ∗ mine V c ⟨g, hg⟩ ∗ held c cM ⟨g, hg⟩ (combV V c ⟨g, hg⟩) ∗ preR c ⟨g, hg⟩)
        ∗ (phMain V c).others g hg) ∗ Owe c O) ∗ R)
      iintro ⟨Hc, Hx, Hm, ⟨He, Hp, Ho⟩, HP, HO, HR⟩
      isplitr [HR]
      · isplitl [HP]; · iexact HP
        isplitr [HO]
        · isplitr [Ho]
          · isplitl [He Hx]; · isplitl [He] <;> iassumption
            isplitl [Hm]; · iexact Hm
            isplitl [Hc] <;> iassumption
          iexact Ho
        iexact HO
      iexact HR
    have hM' : M = bufB (team c) := by rw [ht]; exact hM
    subst hM'
    exact h0.trans (add_run (by rw [hw]; exact h3.trans hr))
  · have ht : team c ≠ t := fun e => h (hb.mpr e)
    refine ⟨hT, ?_⟩
    show iprop(Pers V K ∗ mainX V c ⟨g, hg⟩ j) ⊢ iprop(|={Set.univ}=> mainX V c ⟨g, hg⟩ (j + 1))
    rw [hne ht]
    iintro ⟨-, H⟩; imodintro; iexact H

theorem team_cases (t : Fin 2) : t = 0 ∨ t = 1 := by revert t; decide

/-- The addition for pair `g` on team 0. -/
theorem step_add0 {β : Type} {g : ℕ} {b : BitVec 1} {s : b = 1#1 → Code F β} {k : Code F β} {Q : β → sProp (MM F)} {R : sProp (MM F)}
    (hb : Iff (b = 1#1) (team c = 0))
    (hr : iprop((phMain V c).at V K c g 2 ∗ R) ⊢ wpD c k Q)
    (hg : g < 16 := by decide)
    (hs : ∀ h, ∃ w l1 l2 l3 x m, s h = addCode b0M ⟨g, hg⟩ w l1 l2 l3 x m k ∧ ∀ a b, w a b = k0_pay39 a b := by
      intro h; exact ⟨_, _, _, _, _, _, rfl, fun _ _ => rfl⟩) :
    iprop((phMain V c).at V K c g 1 ∗ R) ⊢ wpD c (dite (b = 1#1) s (fun _ => k)) Q :=
  step_addX 0 rfl hg 1 rfl (fun _ => rfl) (fun h => by
      show iprop(_ ∗ _ ∗ fill V c ⟨g, hg⟩ (team c = 0) ∗ _) = iprop(_ ∗ _ ∗ held c cM ⟨g, hg⟩ _ ∗ _)
      unfold fill; rw [if_pos h])
    (fun h => by
      show iprop(_ ∗ _ ∗ fill V c ⟨g, hg⟩ (team c = 0) ∗ _) = iprop(_ ∗ _ ∗ anyAt c cM ⟨g, hg⟩ ∗ _)
      unfold fill; rw [if_neg h]) hb hr hs

/-- The addition for pair `g` on team 1. -/
theorem step_add1 {β : Type} {g : ℕ} {b : BitVec 1} {s : b = 1#1 → Code F β} {k : Code F β} {Q : β → sProp (MM F)} {R : sProp (MM F)}
    (hb : Iff (b = 1#1) (team c = 1))
    (hr : iprop((phMain V c).at V K c g 3 ∗ R) ⊢ wpD c k Q)
    (hg : g < 16 := by decide)
    (hs : ∀ h, ∃ w l1 l2 l3 x m, s h = addCode b1M ⟨g, hg⟩ w l1 l2 l3 x m k ∧ ∀ a b, w a b = k0_pay39 a b := by
      intro h; exact ⟨_, _, _, _, _, _, rfl, fun _ _ => rfl⟩) :
    iprop((phMain V c).at V K c g 2 ∗ R) ⊢ wpD c (dite (b = 1#1) s (fun _ => k)) Q :=
  step_addX 1 rfl hg 2 rfl (fun h => by
      show iprop(_ ∗ _ ∗ fill V c ⟨g, hg⟩ (team c = 0) ∗ _) = iprop(_ ∗ _ ∗ anyAt c cM ⟨g, hg⟩ ∗ _)
      unfold fill; rw [if_neg (by rw [h]; decide)])
    (fun _ => rfl)
    (fun h => by
      show iprop(_ ∗ _ ∗ held c cM ⟨g, hg⟩ _ ∗ _) = iprop(_ ∗ _ ∗ fill V c ⟨g, hg⟩ (team c = 0) ∗ _)
      unfold fill; rw [if_pos ((team_cases (team c)).resolve_right h)]) hb hr hs

/-- Sending combined block `g` to its rank. -/
theorem send_r (g : Fin 16) (h : g ≠ rank c) {hsc hsrc hdst hsem} (O : CellTallies nD τ sig Unit) :
    iprop(Pers V K ∗ (held c cM g (combV V c g) ∗ anyAt (peer c g) rM (rank c) ∗ dmaTok c 2 g ∗ dmaTok (peer c g) 3 (rank c))
        ∗ Owe c (tallyAt (dmaCell (peer c g) 3 (rank c)) () N + O))
      ⊢ wpD c (Prog.lift (TpuEff.enqueueDma (mat cM g) (.remote (peer c g : Thread nD τ) (mat rM (rank c)) (.dma (semAt cc0_scratch7 g)) hsc)
          (.dma (semAt cc0_scratch8 (rank c))) hsrc hdst hsem)) (fun _ => iprop(dmaCred c 2 g ∗ Owe c O)) := by
  have hs := send_at V K c (peer c g) 2 3 g (rank c) (fun h' => h h'.2) (fun h' => rank_ne_peer h h'.2)
    (src := mat cM g) (dst := mat rM (rank c)) (X := asMat (combV V c g)) (hsc := hsc) (hsrc := hsrc) (hdst := hdst) (hsem := hsem)
    rfl (mat_held c cM g _) (by show _ ⊢ held (peer c g) rM (rank c) _; rw [recvV_peer V c h]; exact mat_held _ _ _ _) O
  refine BI.Entails.trans (sep_mono_right (sep_mono_left (sep_mono (held_mat c cM g _) (sep_mono_left ?_)))) hs
  unfold anyAt
  exact exists_elim fun Y => (held_mat (peer c g) rM (rank c) Y).trans (by iintro H; iexists _; iexact H)

/-- The send for pair `g`. `o3` and `o1` are the places of the slot and of the semaphore on the receiver. -/
theorem step_sendR {β : Type} {g : ℕ} {b : Dev nD → BitVec 1} (dn : Dev nD → ℕ) (dlt : ∀ c, b c = 1#1 → dn c < nD)
    (o3 : Dev nD → Fin 3 → ℕ) (o1 : Dev nD → Fin 1 → ℕ)
    {s : b c = 1#1 → Code F β} {k : Code F β} {Q : β → sProp (MM F)} {R : sProp (MM F)}
    (hr : iprop((phMain V c).at V K c (g + 1) 0 ∗ R) ⊢ wpD c k Q)
    (hg : g < 16 := by decide)
    (hb : ∀ c, Iff (b c = 1#1) (rank c ≠ ⟨g, hg⟩) := by decide +kernel)
    (hdv : ∀ c, b c = 1#1 → dn c = (peer c ⟨g, hg⟩).val := by decide +kernel)
    (ho3 : ∀ c, o3 c = ![(rank c).val, 0, 0] := by decide +kernel)
    (ho1 : ∀ c, o1 c = ![(rank c).val] := by decide +kernel)
    (hs : ∀ h, ∃ i3 i1 hsc hsrc hdst hsem, s h = (Prog.lift (TpuEff.enqueueDma (mat cM ⟨g, hg⟩)
          (.remote (Dev.tc (⟨dn c, dlt c h⟩ : Dev nD))
            ((rM.slice (Rect.unit (s := S16x32x1024) (o3 c) S1x32x1024.size i3) (fun _ => rfl)).squeeze S32x1024 squeezes_S1x32x1024_S32x1024)
            (.dma (semAt cc0_scratch7 ⟨g, hg⟩)) hsc)
          (.dma ((cc0_scratch8.slice (Rect.unit (s := S16) (o1 c) S1.size i1)).squeeze S_ squeezes_S1_S_).sem) hsrc hdst hsem) >>= fun _ => k) := by
      intro h; exact ⟨_, _, _, _, _, _, rfl⟩) :
    iprop((phMain V c).at V K c g 3 ∗ R) ⊢ wpD c (dite (b c = 1#1) s (fun _ => k)) Q := by
  have hr' : iprop((phMain V c).at V K c g 4 ∗ R) ⊢ wpD c k Q := by
    rw [show (phMain V c).at V K c g 4 = (phMain V c).at V K c (g + 1) 0 from Phase.at_next _ _ _ _ _]; exact hr
  refine Phase.branch 4 hg (fun h => ?_) (fun h => ?_) hr'
  · obtain ⟨i3, i1, hsc, hsrc, hdst, hsem, he⟩ := hs h
    rw [he]
    refine Phase.step 4 hg (P := fun _ => True) (fun O _ => with_true ?_) fun _ _ => hr'
    have hne : (⟨g, hg⟩ : Fin 16) ≠ rank c := ((hb c).mp h).symm
    have hd : (⟨dn c, dlt c h⟩ : Dev nD) = peer c ⟨g, hg⟩ := Fin.ext (hdv c h)
    have e3 := ho3 c
    have e1 := ho1 c
    clear he hs
    generalize (⟨dn c, dlt c h⟩ : Dev nD) = d at *
    generalize o3 c = q3 at *
    generalize o1 c = q1 at *
    subst hd e3 e1
    show iprop(Pers V K ∗ (theirs V c ⟨g, hg⟩ ∗ mine V c ⟨g, hg⟩ ∗ held c cM ⟨g, hg⟩ (combV V c ⟨g, hg⟩) ∗ preR c ⟨g, hg⟩) ∗ Owe c (oweR c ⟨g, hg⟩ + O))
      ⊢ wpD c _ fun _ => iprop((theirs V c ⟨g, hg⟩ ∗ mine V c ⟨g, hg⟩ ∗ sentR V c ⟨g, hg⟩) ∗ Owe c (0 + O))
    unfold preR sentR oweR
    rw [if_neg hne, if_neg hne, if_neg hne, zero_add]
    have h0 : iprop(Pers V K ∗ (theirs V c ⟨g, hg⟩ ∗ mine V c ⟨g, hg⟩ ∗ held c cM ⟨g, hg⟩ (combV V c ⟨g, hg⟩)
          ∗ (anyAt (peer c ⟨g, hg⟩) rM (rank c) ∗ dmaTok c 2 ⟨g, hg⟩ ∗ dmaTok (peer c ⟨g, hg⟩) 3 (rank c))) ∗ Owe c (tallyAt (dmaCell (peer c ⟨g, hg⟩) 3 (rank c)) () N + O))
        ⊢ iprop((Pers V K ∗ (held c cM ⟨g, hg⟩ (combV V c ⟨g, hg⟩) ∗ anyAt (peer c ⟨g, hg⟩) rM (rank c) ∗ dmaTok c 2 ⟨g, hg⟩ ∗ dmaTok (peer c ⟨g, hg⟩) 3 (rank c))
            ∗ Owe c (tallyAt (dmaCell (peer c ⟨g, hg⟩) 3 (rank c)) () N + O)) ∗ (theirs V c ⟨g, hg⟩ ∗ mine V c ⟨g, hg⟩)) := by
      iintro ⟨HP, ⟨Ht, Hm, Hc, Hp⟩, HO⟩
      isplitr [Ht Hm]
      · isplitl [HP]; · iexact HP
        isplitr [HO]
        · isplitl [Hc] <;> iassumption
        iexact HO
      isplitl [Ht] <;> iassumption
    refine h0.trans ((sep_mono_left (send_r ⟨g, hg⟩ hne O)).trans ((wp_frame_r _ _ _).trans (wp_mono _ _ _ fun _ => ?_)))
    iintro ⟨⟨Hc, HO⟩, Ht, Hm⟩
    isplitr [HO]
    · isplitl [Ht]; · iexact Ht
      isplitl [Hm] <;> iassumption
    iexact HO
  · have hne : (⟨g, hg⟩ : Fin 16) = rank c := by
      by_contra h'; exact h ((hb c).mpr fun e => h' e.symm)
    refine ⟨?_, ?_⟩
    · show 0 = oweR c ⟨g, hg⟩
      unfold oweR; rw [if_pos hne]
    · show iprop(Pers V K ∗ (theirs V c ⟨g, hg⟩ ∗ mine V c ⟨g, hg⟩ ∗ held c cM ⟨g, hg⟩ (combV V c ⟨g, hg⟩) ∗ preR c ⟨g, hg⟩))
        ⊢ iprop(|={Set.univ}=> (theirs V c ⟨g, hg⟩ ∗ mine V c ⟨g, hg⟩ ∗ sentR V c ⟨g, hg⟩))
      unfold preR sentR
      rw [if_pos hne, if_pos hne]
      iintro ⟨-, Ht, Hm, Hc, -⟩
      imodintro
      isplitl [Ht]; · iexact Ht
      isplitl [Hm] <;> iassumption

end Cert.Combine

end
-- ==== Proof.PhaseWait.lean ====
/-
The waits at the end: for the combined blocks to arrive, and for everything sent to have left.
-/
module

public import proofs.«01_k».proof.Proof.PhaseX

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The sixteen waits on array `k` of transfer semaphores. A semaphore that is not used is closed without a wait. -/
def phWait (V : Args F) (c : Dev nD) (k : Fin 4) : Phase F where
  last := 1
  X i j := if j = 0 then (if Used c k i then iprop(dmaCred c k i ∗ dmaPos c k i) else iprop(dmaPos c k i ∗ moved V c k i))
    else iprop(dmaEnd c k i ∗ moved V c k i)
  T _ _ := 0
  rest := 0
  lev := 3
  above _ _ := Above.zero _
  above_rest := Above.zero _

variable {V : Args F} {K : Dev nD × CI → ℕ} {c : Dev nD}

theorem lvOf_le (k : CI) : lvOf k ≤ 3 := by
  rcases k with _ | ⟨k, g⟩
  · decide
  · revert k; show ∀ k : Fin 4, (if k = 1 then 2 else if k = 3 then 3 else 0) ≤ 3; decide

/-- A wait on a used semaphore. -/
theorem wait_used {g : ℕ} (k : Fin 4) (hg : g < 16) (hu : Used c k ⟨g, hg⟩) {sh : Shape} {src dst : Memref sig .tc .vmem sh .bf16} {h1 h2}
    (hN : dst.view.amount (.dma (semAt (arrS k) ⟨g, hg⟩)) = N) (O : CellTallies nD τ sig Unit) (hO : Above 3 O) :
    iprop(Pers V K ∗ (phWait V c k).X ⟨g, hg⟩ 0 ∗ Owe c ((phWait V c k).T ⟨g, hg⟩ 0 + O))
      ⊢ wpD c (Prog.lift (TpuEff.waitDma2 (semAt (arrS k) ⟨g, hg⟩) src dst h1 h2))
        (fun _ => iprop((phWait V c k).X ⟨g, hg⟩ 1 ∗ Owe c ((phWait V c k).T ⟨g, hg⟩ 1 + O))) := by
  dsimp only [phWait]
  rw [if_pos rfl, if_pos hu, if_neg Nat.one_ne_zero, zero_add]
  exact wait_dma V K c k ⟨g, hg⟩ hu 3 (lvOf_le _) hN O hO

/-- The wait for block `g` sent to the partner to have left. -/
theorem step_left {β : Type} {g : ℕ} {s : Code F PUnit} {k : PUnit → Code F β} {Q : β → sProp (MM F)} {R : sProp (MM F)}
    (hr : iprop((phWait V c 0).at V K c (g + 1) 0 ∗ R) ⊢ wpD c (k ⟨⟩) Q)
    (hg : g < 16 := by decide)
    (hs : ∃ h1 h2, s = waitCode (semAt cc0_scratch5 ⟨g, hg⟩) (slot xM ⟨g, hg⟩) (slot b0M ⟨g, hg⟩) h1 h2 := by exact ⟨_, _, rfl⟩) :
    iprop((phWait V c 0).at V K c g 0 ∗ R) ⊢ wpD c (s >>= k) Q := by
  obtain ⟨h1, h2, rfl⟩ := hs
  have hw := wait_used (V := V) (K := K) (c := c) 0 hg (fun h => absurd h.1 (by decide)) (src := slot xM ⟨g, hg⟩) (dst := slot b0M ⟨g, hg⟩) (h1 := h1) (h2 := h2) rfl
  refine Phase.step 1 hg (P := fun _ => True) (fun O hO => with_true (hw O hO)) fun _ _ => ?_
  rw [show (phWait V c 0).at V K c g 1 = (phWait V c 0).at V K c (g + 1) 0 from Phase.at_next _ _ _ _ _]; exact hr

/-- A guarded wait of array `k`. -/
theorem step_waitG {β : Type} {g : ℕ} (k : Fin 4) (hk : 2 ≤ k) {b : BitVec 1} {s : b = 1#1 → Code F β} {kk : Code F β} {Q : β → sProp (MM F)} {R : sProp (MM F)}
    (hg : g < 16) (hb : Iff (b = 1#1) (rank c ≠ ⟨g, hg⟩))
    (hr : iprop((phWait V c k).at V K c (g + 1) 0 ∗ R) ⊢ wpD c kk Q)
    (hs : ∀ h, ∃ (src dst : Memref sig .tc .vmem S32x1024 .bf16) (h1 : src.view.WordExact) (h2 : dst.view.WordExact),
      s h = (waitCode (semAt (arrS k) ⟨g, hg⟩) src dst h1 h2 >>= fun _ => kk) ∧ dst.view.amount (.dma (semAt (arrS k) ⟨g, hg⟩)) = N) :
    iprop((phWait V c k).at V K c g 0 ∗ R) ⊢ wpD c (dite (b = 1#1) s (fun _ => kk)) Q := by
  have hr' : iprop((phWait V c k).at V K c g 1 ∗ R) ⊢ wpD c kk Q := by
    rw [show (phWait V c k).at V K c g 1 = (phWait V c k).at V K c (g + 1) 0 from Phase.at_next _ _ _ _ _]; exact hr
  refine Phase.branch 1 hg (fun h => ?_) (fun h => ?_) hr'
  · obtain ⟨src, dst, h1, h2, he, hN⟩ := hs h
    rw [he]
    exact Phase.step 1 hg (P := fun _ => True) (fun O hO => with_true (wait_used k hg (fun h' => hb.mp h h'.2.symm) hN O hO)) fun _ _ => hr'
  · have hu : ¬ Used c k ⟨g, hg⟩ := fun hu => hu ⟨hk, by by_contra h'; exact h (hb.mpr fun e => h' e.symm)⟩
    refine ⟨rfl, ?_⟩
    dsimp only [phWait]
    rw [if_pos rfl, if_neg hu, if_neg Nat.one_ne_zero]
    iintro ⟨#HP, Hat, Hm⟩
    imod (close_unused V K c k ⟨g, hg⟩ hu) $$ [Hat] with Hz
    · isplitr; · iexact HP
      iexact Hat
    imodintro
    isplitl [Hz] <;> iassumption

/-- The wait for the combined block of rank `g` to arrive. -/
theorem step_recv {β : Type} {g : ℕ} {b : BitVec 1} {s : b = 1#1 → Code F β} {kk : Code F β} {Q : β → sProp (MM F)} {R : sProp (MM F)}
    {hg : g < 16} (hb : Iff (b = 1#1) (rank c ≠ ⟨g, hg⟩))
    (hr : iprop((phWait V c 3).at V K c (g + 1) 0 ∗ R) ⊢ wpD c kk Q)
    (hs : ∀ h, ∃ (src dst : Memref sig .tc .vmem S32x1024 .bf16) (h1 : src.view.WordExact) (h2 : dst.view.WordExact),
      s h = (waitCode (semAt cc0_scratch8 ⟨g, hg⟩) src dst h1 h2 >>= fun _ => kk) ∧ dst.view.amount (.dma (semAt cc0_scratch8 ⟨g, hg⟩)) = N := by
      intro h; exact ⟨_, _, _, _, rfl, rfl⟩) :
    iprop((phWait V c 3).at V K c g 0 ∗ R) ⊢ wpD c (dite (b = 1#1) s (fun _ => kk)) Q :=
  step_waitG 3 (by decide) hg hb hr hs

/-- The wait for the combined block sent to rank `g` to have left. -/
theorem step_sent {β : Type} {g : ℕ} {b : Dev nD → BitVec 1} {s : b c = 1#1 → Code F β} {kk : Code F β} {Q : β → sProp (MM F)} {R : sProp (MM F)}
    (hr : iprop((phWait V c 2).at V K c (g + 1) 0 ∗ R) ⊢ wpD c kk Q)
    (hg : g < 16 := by decide)
    (hb : ∀ c, Iff (b c = 1#1) (rank c ≠ ⟨g, hg⟩) := by decide +kernel)
    (hs : ∀ h, ∃ (src dst : Memref sig .tc .vmem S32x1024 .bf16) (h1 : src.view.WordExact) (h2 : dst.view.WordExact),
      s h = (waitCode (semAt cc0_scratch7 ⟨g, hg⟩) src dst h1 h2 >>= fun _ => kk) ∧ dst.view.amount (.dma (semAt cc0_scratch7 ⟨g, hg⟩)) = N := by
      intro h; exact ⟨_, _, _, _, rfl, rfl⟩) :
    iprop((phWait V c 2).at V K c g 0 ∗ R) ⊢ wpD c (dite (b c = 1#1) s (fun _ => kk)) Q :=
  step_waitG 2 (by decide) hg (hb c) hr hs

end Cert.Combine

end
-- ==== Proof.Seams.lean ====
/-
Between the loops: what a device holds besides the loop it is in, and how the end of one loop makes the beginning
of the next.
-/
module

public import Idealize.ShloMosaic.Lib.Pipeline.Value
public import proofs.«01_k».proof.Proof.PhaseMain
public import proofs.«01_k».proof.Proof.PhaseWait

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One assertion for each of the sixteen pairs. -/
abbrev every (Φ : Fin 16 → sProp (MM F)) : sProp (MM F) := bigSep Finset.univ Φ

omit [FloatOps F] in
theorem every_mono {Φ Ψ : Fin 16 → sProp (MM F)} (h : ∀ i, Φ i ⊢ Ψ i) : every Φ ⊢ every Ψ := bigSep_mono fun i _ => h i
omit [FloatOps F] in
theorem every_sep (Φ Ψ : Fin 16 → sProp (MM F)) : every (fun i => iprop(Φ i ∗ Ψ i)) = iprop(every Φ ∗ every Ψ) := bigSep_sep _ _ _
omit [FloatOps F] in
/-- Two families joined pair by pair. -/
theorem every_zip {Φ Ψ Θ : Fin 16 → sProp (MM F)} (h : ∀ i, iprop(Φ i ∗ Ψ i) ⊢ Θ i) : iprop(every Φ ∗ every Ψ) ⊢ every Θ :=
  (Entails.of_eq (every_sep Φ Ψ).symm).trans (every_mono h)
omit [FloatOps F] in
/-- A family parted pair by pair. -/
theorem every_unzip {Φ Ψ Θ : Fin 16 → sProp (MM F)} (h : ∀ i, Θ i ⊢ iprop(Φ i ∗ Ψ i)) : every Θ ⊢ iprop(every Φ ∗ every Ψ) :=
  (every_mono h).trans (Entails.of_eq (every_sep Φ Ψ))
omit [FloatOps F] in
/-- A family is one member and the others; the others may be given in another form. -/
theorem every_take (r : Fin 16) {Φ Ψ : Fin 16 → sProp (MM F)} {A : sProp (MM F)} (h0 : Φ r ⊢ A) (h : ∀ i, i ≠ r → Φ i ⊢ Ψ i) (hr : Ψ r = iprop(emp)) :
    every Φ ⊢ iprop(A ∗ every Ψ) := by
  have e : iprop(Ψ r ∗ bigSep (Finset.univ.erase r) Ψ) ⊢ every Ψ := Entails.of_eq (bigSep_erase (Finset.mem_univ r)).symm
  rw [hr] at e
  refine (Entails.of_eq (bigSep_erase (Finset.mem_univ r))).trans (BI.sep_mono h0 ?_)
  exact (bigSep_mono fun i hi => h i (Finset.mem_erase.mp hi).1).trans (BI.Entails.trans BI.emp_sep.2 e)
omit [FloatOps F] in
/-- One member and a family without it make a family. -/
theorem every_put (r : Fin 16) {Φ Ψ : Fin 16 → sProp (MM F)} {A : sProp (MM F)} (h0 : iprop(A ∗ Ψ r) ⊢ Φ r) (h : ∀ i, i ≠ r → Ψ i ⊢ Φ i) :
    iprop(A ∗ every Ψ) ⊢ every Φ := by
  have e : every Ψ ⊢ iprop(Ψ r ∗ bigSep (Finset.univ.erase r) Ψ) := Entails.of_eq (bigSep_erase (Finset.mem_univ r))
  have h1 : bigSep (Finset.univ.erase r) Ψ ⊢ bigSep (Finset.univ.erase r) Φ := bigSep_mono fun i hi => h i (Finset.mem_erase.mp hi).1
  have h2 : iprop(A ∗ (Ψ r ∗ bigSep (Finset.univ.erase r) Ψ)) ⊢ iprop((A ∗ Ψ r) ∗ bigSep (Finset.univ.erase r) Ψ) := sep_assoc.2
  exact (sep_mono_right e).trans (h2.trans ((BI.sep_mono h0 h1).trans (Entails.of_eq (bigSep_erase (Finset.mem_univ r)).symm)))

/-! ## Whole buffers -/

/-- A load of a buffer reads its contents. -/
theorem load_whole {c : Dev nD} {s : Shape} {e : EltTy} {M : Memref sig .tc .vmem s e} {X : Vec F s e} {off : Fin s.rank → ℕ} {inb} {hl} (hz : off = fun _ => 0) :
    (owns (c : Thread nD τ) M fullShare X : sProp (MM F)) ⊢ wpD c (Prog.lift (TpuEff.load M (Rect.unit (s := s) off s.size inb).toLoadRect hl) : Code F _)
      (fun v => iprop(⌜v = X⌝ ∗ owns (c : Thread nD τ) M fullShare X)) := by
  subst hz
  unfold Prog.lift owns
  iintro ⟨%f, %hf, H⟩
  iapply (wp_load 𝒱₀ (c : Thread nD τ) none Set.univ (m := M) (S := M.view.set) (View.setOn_subset_set (v := M.view) _)) $$ H
  iintro H
  rw [wp_ret]; imodintro
  isplitr
  · ipureintro
    rw [← hf]; funext x
    have he : (Rect.whole s).emb x = x := Rect.emb_whole_apply s x
    show M.view.read (Elt F) f ((Rect.whole s).emb x) = _
    rw [he]
  iexists f; isplitr; · ipureintro; exact hf
  iexact H

/-- The store of the result. -/
theorem store_out {c : Dev nD} {X w : Vec F S32x1024 .f32} {off : Fin 2 → ℕ} {inb} {hx hm} (hz : off = fun _ => 0) :
    (owns (c : Thread nD τ) oM fullShare X : sProp (MM F)) ⊢ wpD c (Prog.lift (TpuEff.store oM (Rect.unit (s := S32x1024) off S32x1024.size inb) w Finset.univ hx hm) : Code F _)
      (fun _ => owns (c : Thread nD τ) oM fullShare w) := by
  subst hz
  unfold Prog.lift owns
  rw [show oM.view.set = Finset.univ from View.set_whole _]
  iintro ⟨%f, %hf, H⟩
  iapply (wp_store 𝒱₀ (c : Thread nD τ) none Set.univ (m := oM) (r := Rect.whole S32x1024) (w := w) (Mk := Finset.univ) (f := f)
    (S := Finset.univ) (hS := Finset.subset_univ _)) $$ H
  iintro H
  rw [wp_ret]; imodintro
  iexists w; isplitr
  · ipureintro; rfl
  rw [show (oM.access (Rect.whole S32x1024)).write (Elt F) f w Finset.univ = w from Memref.write_access_whole_univ (Elt F) cc0_stg2_0 f w]
  iexact H

/-! ## What is held -/

/-- The device's blocks of the arguments. -/
def Ins (V : Args F) (c : Dev nD) : sProp (MM F) := iprop(owns (c : Thread nD τ) aM fullShare (V.a c) ∗ owns (c : Thread nD τ) bM fullShare (V.b c))
/-- The buffer of the result. -/
def outAny (c : Dev nD) : sProp (MM F) := iprop(∃ Y, owns (c : Thread nD τ) oM fullShare Y)
/-- The tokens for sending block `i` to the partner, -/
def tokX (c : Dev nD) (i : Fin 16) : sProp (MM F) := iprop(dmaTok c 0 i ∗ dmaTok (partner c) 1 i)
/-- those for sending the combined block to rank `i`, -/
def tokR (c : Dev nD) (i : Fin 16) : sProp (MM F) := if i = rank c then iprop(emp) else iprop(dmaTok c 2 i ∗ dmaTok (peer c i) 3 (rank c))
/-- and the slot there. -/
def slotR (c : Dev nD) (i : Fin 16) : sProp (MM F) := if i = rank c then iprop(emp) else anyAt (peer c i) rM (rank c)
/-- What the wait for rank `i`'s combined block takes. -/
def awaitR (c : Dev nD) (i : Fin 16) : sProp (MM F) := if Used c 3 i then iprop(dmaCred c 3 i ∗ dmaPos c 3 i) else dmaPos c 3 i
/-- What is not used before the last loops. -/
def late (V : Args F) (c : Dev nD) : sProp (MM F) :=
  iprop(every (dmaPos c 0) ∗ every (dmaPos c 2) ∗ every (awaitR c) ∗ anyAt c rM (rank c) ∗ outAny c ∗ Ins V c)
/-- What is first used after the barrier. -/
def fresh (c : Dev nD) : sProp (MM F) :=
  iprop((cred (tallyAt (barCell c) () 16) ∗ atPos (ER F) (barCell c) 0 ∅ 0) ∗ every (tokX c) ∗ every (tokR c)
    ∗ every (fun i => iprop(dmaCred c 1 i ∗ dmaPos c 1 i)) ∗ anyAll c cM)
/-- What a device owes at the start. -/
def owe₀ (c : Dev nD) : CellTallies nD τ sig Unit := (∑ r, oweBar c r) + oweXR c
/-- What a device has at the start. -/
def Start (V : Args F) (K : Dev nD × CI → ℕ) (c : Dev nD) : sProp (MM F) :=
  iprop(Pers V K ∗ Owe c (owe₀ c) ∗ every (barTok c) ∗ anyAll c b0M ∗ anyAll c b1M ∗ anyAll c xM ∗ anyAll c rM ∗ fresh c
    ∗ every (dmaPos c 0) ∗ every (dmaPos c 2) ∗ every (awaitR c) ∗ outAny c ∗ Ins V c)
/-- What it has at the end. -/
def Done (V : Args F) (c : Dev nD) : sProp (MM F) :=
  iprop(Owe c 0 ∗ Ins V c ∗ owns (c : Thread nD τ) oM fullShare (outV V c) ∗ semVal (barCell c) 0
    ∗ every (dmaEnd c 0) ∗ every (dmaEnd c 1) ∗ every (dmaEnd c 2) ∗ every (dmaEnd c 3)
    ∗ anyAll c b0M ∗ anyAll c b1M ∗ anyAll c xM ∗ anyAll c cM ∗ (∃ X, owns (c : Thread nD τ) rM fullShare X))

/-- Besides the signals: -/
def besideBar (V : Args F) (c : Dev nD) : sProp (MM F) := iprop((anyAll c b0M ∗ anyAll c b1M) ∗ fresh c ∗ late V c)
/-- besides the sends to the partner: -/
def besideX (V : Args F) (c : Dev nD) : sProp (MM F) := iprop(every (fun i => mainX V c i 0) ∗ semVal (barCell c) 0 ∗ late V c)
/-- besides the main loop: -/
def besideMain (V : Args F) (c : Dev nD) : sProp (MM F) := iprop(every (dmaCred c 0) ∗ semVal (barCell c) 0 ∗ late V c)
/-- besides the waits for the combined blocks to arrive: -/
def besideRecv (V : Args F) (c : Dev nD) : sProp (MM F) :=
  iprop(every (fun i => (phWait V c 0).X i 0) ∗ every (fun i => (phWait V c 2).X i 0) ∗ every (fun i => iprop(theirs V c i ∗ mine V c i))
    ∗ outAny c ∗ Ins V c ∗ semVal (barCell c) 0)
/-- besides the waits for the blocks sent to the partner to have left: -/
def besideLeft (V : Args F) (c : Dev nD) : sProp (MM F) :=
  iprop(every (fun i => (phWait V c 2).X i 0) ∗ every (fun i => iprop(theirs V c i ∗ mine V c i)) ∗ every (dmaEnd c 3)
    ∗ owns (c : Thread nD τ) rM fullShare (recvAll V c) ∗ owns (c : Thread nD τ) oM fullShare (outV V c) ∗ Ins V c ∗ semVal (barCell c) 0)
/-- besides the waits for the combined blocks sent to have left. -/
def besideSent (V : Args F) (c : Dev nD) : sProp (MM F) :=
  iprop(every (fun i => (phWait V c 0).X i 1) ∗ every (fun i => iprop(theirs V c i ∗ mine V c i)) ∗ every (dmaEnd c 3)
    ∗ owns (c : Thread nD τ) rM fullShare (recvAll V c) ∗ owns (c : Thread nD τ) oM fullShare (outV V c) ∗ Ins V c ∗ semVal (barCell c) 0)

variable {V : Args F} {K : Dev nD × CI → ℕ} {c : Dev nD}

/-! ## From one loop to the next -/

omit [FloatOps F] in
/-- The partner buffer and the receive buffer are what the signals hand over, and the device's own receive slot. -/
theorem hand_out : iprop(anyAll c xM ∗ anyAll c rM) ⊢ (iprop(every (handed c) ∗ anyAt c rM (rank c)) : sProp (MM F)) := by
  have h1 : (anyAll c rM : sProp (MM F)) ⊢ iprop(anyAt c rM (rank c) ∗ every (fun i => if i = rank c then iprop(emp) else anyAt c rM i)) := by
    unfold anyAll
    exact every_take (rank c) .rfl (fun i hi => by rw [if_neg hi]) (if_pos rfl)
  have h2 : iprop(anyAll c xM ∗ every (fun i => if i = rank c then iprop(emp) else anyAt c rM i)) ⊢ (every (handed c) : sProp (MM F)) :=
    every_put (rank c) (by unfold handed; rw [if_pos rfl, if_pos rfl]; exact BI.sep_emp.1) (fun i hi => by unfold handed; rw [if_neg hi, if_neg hi])
  iintro ⟨Hx, Hr⟩
  ihave ⟨Hr, Ho⟩ := h1 $$ Hr
  isplitr [Hr]
  · iapply h2; isplitl [Hx] <;> iassumption
  iexact Hr

/-- Before the signals: the one to the partner is singled out. -/
theorem start_bar : Start V K c ⊢ iprop((Pers V K ∗ barTok c (rank c) ∗ handed c (rank c)
    ∗ Owe c (oweBar c (rank c) + ((∑ i, (phBar c : Phase F).T i 0) + (phBar c : Phase F).rest)))
    ∗ every (fun i => (phBar c).X i 0) ∗ besideBar V c) := by
  have h1 : (every (fun i => iprop(barTok c i ∗ handed c i)) : sProp (MM F)) ⊢ iprop((barTok c (rank c) ∗ handed c (rank c)) ∗ every (fun i => (phBar c).X i 0)) :=
    every_take (rank c) .rfl (fun i hi => by dsimp only [phBar]; rw [if_pos rfl, if_neg hi]) (by dsimp only [phBar]; rw [if_pos rfl, if_pos rfl])
  have hO : owe₀ c = oweBar c (rank c) + ((∑ i, (phBar c : Phase F).T i 0) + (phBar c : Phase F).rest) := by
    have hs : (∑ i, (phBar c : Phase F).T i 0) = ∑ i ∈ Finset.univ.erase (rank c), oweBar c i := by
      rw [← Finset.add_sum_erase _ _ (Finset.mem_univ (rank c))]
      rw [show (phBar c : Phase F).T (rank c) 0 = 0 from by dsimp only [phBar]; rw [if_pos rfl, if_pos rfl], zero_add]
      exact Finset.sum_congr rfl fun i hi => by dsimp only [phBar]; rw [if_pos rfl, if_neg (Finset.mem_erase.mp hi).1]
    rw [hs, ← add_assoc, Finset.add_sum_erase _ _ (Finset.mem_univ (rank c))]; rfl
  unfold Start besideBar late
  rw [hO]
  iintro ⟨HP, HO, Ht, Hb0, Hb1, Hx, Hr, Hf, H0, H2, H3, Ho, Hi⟩
  ihave ⟨Hh, Hr⟩ := (hand_out (F := F) (c := c)) $$ [Hx Hr]
  · isplitl [Hx] <;> iassumption
  ihave Hth := (Entails.of_eq (every_sep (F := F) (barTok c) (handed c)).symm) $$ [Ht Hh]
  · isplitl [Ht] <;> iassumption
  ihave ⟨⟨Ht, Hh⟩, Hs⟩ := h1 $$ Hth
  isplitl [HP Ht Hh HO]
  · isplitl [HP]; · iexact HP
    isplitl [Ht]; · iexact Ht
    isplitl [Hh] <;> iassumption
  isplitl [Hs]; · iexact Hs
  isplitl [Hb0 Hb1]; · isplitl [Hb0] <;> iassumption
  isplitl [Hf]; · iexact Hf
  isplitl [H0]; · iexact H0
  isplitl [H2]; · iexact H2
  isplitl [H3]; · iexact H3
  isplitl [Hr]; · iexact Hr
  isplitl [Ho] <;> iassumption

/-- After the signals, the stores begin. -/
theorem bar_store : iprop((phBar c).at V K c 16 0 ∗ besideBar V c) ⊢ iprop((phStore V c).at V K c 0 0 ∗ fresh c ∗ late V c) := by
  have h1 : iprop(anyAll c b0M ∗ anyAll c b1M) ⊢ (every (fun i => (phStore V c).X i 0) : sProp (MM F)) := by
    unfold anyAll
    exact every_zip fun i => by dsimp only [phStore]; rw [if_pos rfl, if_pos (by decide)]
  have hB : ∀ i, (phBar c : Phase F).T i 1 = 0 := fun i => by dsimp only [phBar]; rw [if_neg Nat.one_ne_zero]
  have hS : ∀ i, (phStore V c).T i 0 = 0 := fun _ => rfl
  have hO : (∑ i, (phBar c : Phase F).T i 1) + (phBar c : Phase F).rest = (∑ i, (phStore V c).T i 0) + (phStore V c).rest := by
    rw [Finset.sum_eq_zero fun i _ => hB i, Finset.sum_eq_zero fun i _ => hS i]
    rfl
  unfold besideBar
  refine (sep_mono_left (Phase.finish V K (phBar c) c)).trans ?_
  rw [show (phBar c : Phase F).last = 1 from rfl, hO]
  iintro ⟨⟨HP, -, HO⟩, Hb, Hf, Hl⟩
  ihave Hs := h1 $$ Hb
  isplitr [Hf Hl]
  · iapply (Phase.begin V K (phStore V c) c)
    isplitl [HP]; · iexact HP
    isplitl [Hs] <;> iassumption
  isplitl [Hf] <;> iassumption

/-- The space the peers hand over is the partner's buffer and a slot at every other peer. -/
theorem handed_split : (bigSep Finset.univ fun r => handed (peer c r) (rank c)) ⊢ (iprop(anyAll (partner c) xM ∗ every (slotR c)) : sProp (MM F)) :=
  every_take (rank c)
    (by unfold handed; rw [if_pos (peer_eq_rank_iff.mpr rfl), peer_rank])
    (fun i hi => by unfold handed slotR; rw [if_neg fun h => hi (peer_eq_rank_iff.mp h), if_neg hi])
    (by unfold slotR; rw [if_pos rfl])

/-- The stored blocks are those to send and those to keep. -/
theorem stored_split : every (fun i => (phStore V c).X i 2)
    ⊢ iprop(every (fun i => held c (bufB (1 - team c)) i (blkV V (1 - team c) c i)) ∗ every (mine V c)) := by
  refine every_unzip fun i => ?_
  dsimp only [phStore]; rw [if_neg (by decide), if_neg (by decide)]
  rcases team_cases (team c) with h | h
  · rw [show mine V c i = held c b0M i (blkV V 0 c i) from by unfold mine; rw [h]; rfl, h]; exact sep_comm.1
  · rw [show mine V c i = held c b1M i (blkV V 1 c i) from by unfold mine; rw [h]; rfl, h]; exact .rfl

/-- The sends to the partner can begin. -/
theorem ready_X : iprop(every (fun i => held c (bufB (1 - team c)) i (blkV V (1 - team c) c i)) ∗ anyAll (partner c) xM ∗ every (tokX c))
    ⊢ every (fun i => (phX V c).X i 0) := by
  unfold anyAll
  refine (sep_mono_right (Entails.of_eq (every_sep _ _).symm)).trans (every_zip fun i => ?_)
  dsimp only [phX]; rw [if_pos (Nat.zero_le _)]; unfold preX tokX; exact .rfl

/-- What sending a combined block takes is a slot and two tokens. -/
theorem ready_R : iprop(every (slotR c) ∗ every (tokR c)) ⊢ (every (preR c) : sProp (MM F)) :=
  every_zip fun i => by
    unfold slotR tokR preR
    by_cases h : i = rank c
    · rw [if_pos h, if_pos h, if_pos h]; exact BI.sep_emp.1
    · rw [if_neg h, if_neg h, if_neg h]

/-- The main loop's pairs before their first step. -/
theorem ready_main : iprop(every (fun i => iprop(dmaCred c 1 i ∗ dmaPos c 1 i)) ∗ every (mine V c) ∗ anyAll c cM ∗ every (preR c))
    ⊢ every (fun i => mainX V c i 0) := by
  unfold anyAll
  exact (sep_mono_right ((sep_mono_right (Entails.of_eq (every_sep _ _).symm)).trans (Entails.of_eq (every_sep _ _).symm))).trans (every_zip fun _ => .rfl)

/-- The barrier: after the stores, all peers' signals are waited for; then the sends to the partner begin. -/
theorem step_barrier {β : Type} {k : PUnit → Code F β} {Q : β → sProp (MM F)}
    (hr : iprop((phX V c).at V K c 0 0 ∗ besideX V c) ⊢ wpD c (k ⟨⟩) Q) :
    iprop((phStore V c).at V K c 16 0 ∗ fresh c ∗ late V c) ⊢ wpD c (semWaitWord barS 16#32 >>= k) Q := by
  have hO : (∑ i, (phStore V c).T i 2) + (phStore V c).rest = oweXR c := by
    rw [Finset.sum_eq_zero (f := fun i => (phStore V c).T i 2) fun i _ => rfl, zero_add]; rfl
  have hO' : (∑ i, (phX V c).T i 0) + (phX V c).rest = oweXR c := by
    have hX : ∀ i, (phX V c).T i 0 = oweX c i := fun i => by dsimp only [phX]; rw [if_pos (Nat.zero_le _)]
    rw [Finset.sum_congr rfl fun i _ => hX i]; rfl
  have h0 : iprop((phStore V c).at V K c 16 0 ∗ fresh c ∗ late V c)
      ⊢ iprop((Pers V K ∗ cred (tallyAt (barCell c) () 16) ∗ atPos (ER F) (barCell c) 0 ∅ 0 ∗ Owe c (oweXR c))
        ∗ Pers V K ∗ every (fun i => (phStore V c).X i 2) ∗ every (tokX c) ∗ every (tokR c)
          ∗ every (fun i => iprop(dmaCred c 1 i ∗ dmaPos c 1 i)) ∗ anyAll c cM ∗ late V c) := by
    unfold fresh
    refine (sep_mono_left (Phase.finish V K (phStore V c) c)).trans ?_
    rw [show (phStore V c).last = 2 from rfl, hO]
    iintro ⟨⟨#HP, HX, HO⟩, ⟨⟨Hc, Hat⟩, Htx, Htr, H1, Hcm⟩, Hl⟩
    isplitl [Hc Hat HO]
    · isplitr; · iexact HP
      isplitl [Hc]; · iexact Hc
      isplitl [Hat] <;> iassumption
    isplitr; · iexact HP
    isplitl [HX]; · iexact HX
    isplitl [Htx]; · iexact Htx
    isplitl [Htr]; · iexact Htr
    isplitl [H1]; · iexact H1
    isplitl [Hcm] <;> iassumption
  have h1 : iprop(((semVal (barCell c) 0 ∗ bigSep Finset.univ fun r => handed (peer c r) (rank c)) ∗ Owe c (oweXR c))
        ∗ Pers V K ∗ every (fun i => (phStore V c).X i 2) ∗ every (tokX c) ∗ every (tokR c)
          ∗ every (fun i => iprop(dmaCred c 1 i ∗ dmaPos c 1 i)) ∗ anyAll c cM ∗ late V c)
      ⊢ iprop((phX V c).at V K c 0 0 ∗ besideX V c) := by
    unfold besideX
    iintro ⟨⟨⟨Hs, Hh⟩, HO⟩, HP, HX, Htx, Htr, H1, Hcm, Hl⟩
    ihave ⟨Hpx, Hsl⟩ := (handed_split (F := F) (c := c)) $$ Hh
    ihave ⟨Hsend, Hmine⟩ := (stored_split (V := V) (c := c)) $$ HX
    ihave Hp := (ready_X (V := V) (c := c)) $$ [Hsend Hpx Htx]
    · isplitl [Hsend]; · iexact Hsend
      isplitl [Hpx] <;> iassumption
    ihave Hr := (ready_R (F := F) (c := c)) $$ [Hsl Htr]
    · isplitl [Hsl] <;> iassumption
    ihave Hm := (ready_main (V := V) (c := c)) $$ [H1 Hmine Hcm Hr]
    · isplitl [H1]; · iexact H1
      isplitl [Hmine]; · iexact Hmine
      isplitl [Hcm] <;> iassumption
    isplitl [HP Hp HO]
    · iapply (Phase.begin V K (phX V c) c)
      rw [hO']
      isplitl [HP]; · iexact HP
      isplitl [Hp] <;> iassumption
    isplitl [Hm]; · iexact Hm
    isplitl [Hs] <;> iassumption
  unfold wpD
  rw [wp_bind]
  refine h0.trans ((sep_mono_left (wait_bar V K c (oweXR c) (oweXR_above c))).trans ((wp_frame_r _ _ _).trans (wp_mono _ _ _ fun _ => ?_)))
  exact h1.trans hr

/-- After the sends to the partner, the main loop begins. -/
theorem X_main : iprop((phX V c).at V K c 16 0 ∗ besideX V c) ⊢ iprop((phMain V c).at V K c 0 0 ∗ besideMain V c) := by
  have ht : ¬ 2 ≤ (team c).val := by have := (team c).isLt; omega
  have hX : (every (fun i => (phX V c).X i 2)) = every (dmaCred c 0) := bigSep_congr fun i _ => if_neg ht
  have hO : (∑ i, (phX V c).T i 2) + (phX V c).rest = (∑ i, (phMain V c).T i 0) + (phMain V c).rest := by
    rw [Finset.sum_eq_zero (f := fun i => (phX V c).T i 2) fun i _ => if_neg ht, zero_add]
    have hM : ∀ i, (phMain V c).T i 0 = oweR c i := fun i => by dsimp only [phMain]; rw [if_pos (by decide)]
    rw [Finset.sum_congr rfl fun i _ => hM i]
    exact (add_zero _).symm
  unfold besideX besideMain
  refine (sep_mono_left (Phase.finish V K (phX V c) c)).trans ?_
  rw [show (phX V c).last = 2 from rfl, hO]
  rw [show (bigSep Finset.univ fun i => (phX V c).X i 2) = every (dmaCred c 0) from hX]
  iintro ⟨⟨HP, HX, HO⟩, Hm, Hs, Hl⟩
  isplitl [HP Hm HO]
  · iapply (Phase.begin V K (phMain V c) c)
    isplitl [HP]; · iexact HP
    isplitl [Hm]; · iexact Hm
    iexact HO
  isplitl [HX]; · iexact HX
  isplitl [Hs] <;> iassumption

/-- The combined blocks sent, besides the device's own. -/
def sentOut (c : Dev nD) (i : Fin 16) : sProp (MM F) := if i = rank c then iprop(emp) else dmaCred c 2 i

/-- What is held while the device's own block is copied. -/
def besideSelf (V : Args F) (K : Dev nD × CI → ℕ) (c : Dev nD) : sProp (MM F) :=
  iprop(Pers V K ∗ Owe c 0 ∗ every (fun i => iprop(theirs V c i ∗ mine V c i)) ∗ every (sentOut c) ∗ every (dmaCred c 0)
    ∗ semVal (barCell c) 0 ∗ every (dmaPos c 0) ∗ every (dmaPos c 2) ∗ every (awaitR c) ∗ outAny c ∗ Ins V c)

/-- A load's result passes through the copy unchanged. -/
theorem copy_eq (v : Vec F S1x32x1024 .bf16) : k0_pay71 v = v := by
  unfold k0_pay71; exact shapeCast_shapeCast v _ _

theorem used_iff {k : Fin 4} (hk : 2 ≤ k) (i : Fin 16) : Iff (Used c k i) (i ≠ rank c) := by
  unfold Used; exact ⟨fun h e => h ⟨hk, e⟩, fun h e => h e.2⟩

/-- After the main loop: the device's own combined block and its slot, and the rest. -/
theorem main_self : iprop((phMain V c).at V K c 16 0 ∗ besideMain V c)
    ⊢ iprop(held c cM (rank c) (combV V c (rank c)) ∗ anyAt c rM (rank c) ∗ besideSelf V K c) := by
  have hM : ∀ i, (phMain V c).T i 4 = 0 := fun i => by dsimp only [phMain]; rw [if_neg (by decide)]
  have hO : (∑ i, (phMain V c).T i 4) + (phMain V c).rest = 0 := by
    rw [Finset.sum_eq_zero fun i _ => hM i, zero_add]; rfl
  have h1 : every (fun i => (phMain V c).X i 4) ⊢ iprop(every (fun i => iprop(theirs V c i ∗ mine V c i)) ∗ every (sentR V c)) :=
    every_unzip fun i => sep_assoc.2
  have h2 : every (sentR V c) ⊢ iprop(held c cM (rank c) (combV V c (rank c)) ∗ every (sentOut c)) :=
    every_take (rank c) (by unfold sentR; rw [if_pos rfl]) (fun i hi => by unfold sentR sentOut; rw [if_neg hi, if_neg hi]) (if_pos rfl)
  unfold besideMain besideSelf late
  refine (sep_mono_left (Phase.finish V K (phMain V c) c)).trans ?_
  rw [show (phMain V c).last = 4 from rfl, hO]
  iintro ⟨⟨HP, HX, HO⟩, Hc0, Hs, H0, H2, H3, Hr, Ho, Hi⟩
  ihave ⟨Htm, Hsent⟩ := h1 $$ HX
  ihave ⟨Hc, Hsent⟩ := h2 $$ Hsent
  isplitl [Hc]; · iexact Hc
  isplitl [Hr]; · iexact Hr
  isplitl [HP]; · iexact HP
  isplitl [HO]; · iexact HO
  isplitl [Htm]; · iexact Htm
  isplitl [Hsent]; · iexact Hsent
  isplitl [Hc0]; · iexact Hc0
  isplitl [Hs]; · iexact Hs
  isplitl [H0]; · iexact H0
  isplitl [H2]; · iexact H2
  isplitl [H3]; · iexact H3
  isplitl [Ho] <;> iassumption

/-- After the copy, the waits for the combined blocks begin. -/
theorem self_recv : iprop(held c rM (rank c) (combV V c (rank c)) ∗ held c cM (rank c) (combV V c (rank c)) ∗ besideSelf V K c)
    ⊢ iprop((phWait V c 3).at V K c 0 0 ∗ besideRecv V c) := by
  have h3 : iprop(held c rM (rank c) (combV V c (rank c)) ∗ every (awaitR c)) ⊢ every (fun i => (phWait V c 3).X i 0) :=
    every_put (rank c)
      (by
        have hu : ¬ Used c 3 (rank c) := fun h => (used_iff (by decide) _).mp h rfl
        dsimp only [phWait]; unfold awaitR
        rw [if_pos rfl, if_neg hu, if_neg hu]
        show _ ⊢ iprop(_ ∗ held c rM (rank c) (recvV V c (rank c)))
        rw [recvV_rank]; exact sep_comm.1)
      (fun i hi => by
        have hu : Used c 3 i := (used_iff (by decide) i).mpr hi
        dsimp only [phWait]; unfold awaitR
        rw [if_pos rfl, if_pos hu, if_pos hu])
  have h2 : iprop(held c cM (rank c) (combV V c (rank c)) ∗ (every (fun i => iprop(sentOut c i ∗ dmaPos c 2 i)))) ⊢ every (fun i => (phWait V c 2).X i 0) :=
    every_put (rank c)
      (by
        have hu : ¬ Used c 2 (rank c) := fun h => (used_iff (by decide) _).mp h rfl
        dsimp only [phWait]; unfold sentOut
        rw [if_pos rfl, if_neg hu, if_pos rfl]
        show _ ⊢ iprop(_ ∗ held c cM (rank c) (combV V c (rank c)))
        iintro ⟨H1, -, H2⟩; isplitl [H2] <;> iassumption)
      (fun i hi => by
        have hu : Used c 2 i := (used_iff (by decide) i).mpr hi
        dsimp only [phWait]; unfold sentOut
        rw [if_pos rfl, if_pos hu, if_neg hi])
  have h0 : iprop(every (dmaCred c 0) ∗ every (dmaPos c 0)) ⊢ every (fun i => (phWait V c 0).X i 0) :=
    every_zip fun i => by
      have hu : Used c 0 i := fun h => absurd h.1 (by decide)
      dsimp only [phWait]; rw [if_pos rfl, if_pos hu]
  have hT : ∀ i, (phWait V c 3).T i 0 = 0 := fun _ => rfl
  have hO : (∑ i, (phWait V c 3).T i 0) + (phWait V c 3).rest = 0 := by
    rw [Finset.sum_eq_zero fun i _ => hT i, zero_add]; rfl
  unfold besideSelf besideRecv
  iintro ⟨Hr, Hc, HP, HO, Htm, Hsent, Hc0, Hs, H0, H2, H3, Ho, Hi⟩
  ihave Hw3 := h3 $$ [Hr H3]
  · isplitl [Hr] <;> iassumption
  ihave Hsent := (Entails.of_eq (every_sep (F := F) (sentOut c) (dmaPos c 2)).symm) $$ [Hsent H2]
  · isplitl [Hsent] <;> iassumption
  ihave Hw2 := h2 $$ [Hc Hsent]
  · isplitl [Hc] <;> iassumption
  ihave Hw0 := h0 $$ [Hc0 H0]
  · isplitl [Hc0] <;> iassumption
  isplitl [HP Hw3 HO]
  · iapply (Phase.begin V K (phWait V c 3) c)
    rw [hO]
    isplitl [HP]; · iexact HP
    isplitl [Hw3] <;> iassumption
  isplitl [Hw0]; · iexact Hw0
  isplitl [Hw2]; · iexact Hw2
  isplitl [Htm]; · iexact Htm
  isplitl [Ho]; · iexact Ho
  isplitl [Hi] <;> iassumption

/-- The device's own combined block is copied to its slot. -/
theorem step_self {β : Type} {off : Dev nD → Fin 3 → ℕ} {i1 l1 l2 hx hm} {k : Code F β} {Q : β → sProp (MM F)}
    (hr : iprop((phWait V c 3).at V K c 0 0 ∗ besideRecv V c) ⊢ wpD c k Q)
    (hoff : ∀ c, off c = ![(rank c).val, 0, 0] := by decide +kernel) :
    iprop((phMain V c).at V K c 16 0 ∗ besideMain V c)
      ⊢ wpD c (Prog.lift (TpuEff.load cM (Rect.unit (s := S16x32x1024) (off c) S1x32x1024.size i1).toLoadRect l1) >>= fun v =>
          Prog.lift (TpuEff.load rM (Rect.unit (s := S16x32x1024) (off c) S1x32x1024.size i1).toLoadRect l2) >>= fun _ =>
          Prog.lift (TpuEff.store rM (Rect.unit (s := S16x32x1024) (off c) S1x32x1024.size i1) (k0_pay71 v) Finset.univ hx hm) >>= fun _ => k) Q := by
  refine main_self.trans (frame_step (load_slot (hoff c)) fun v hv => ?_)
  subst hv
  have h1 : iprop(held c cM (rank c) (combV V c (rank c)) ∗ anyAt c rM (rank c) ∗ besideSelf V K c)
      ⊢ iprop(anyAt c rM (rank c) ∗ held c cM (rank c) (combV V c (rank c)) ∗ besideSelf V K c) := by
    iintro ⟨H1, H2, H3⟩
    isplitl [H2]; · iexact H2
    isplitl [H1] <;> iassumption
  refine h1.trans (frame_step (P := fun _ => True) (with_true (load_any (hoff c))) fun _ _ => ?_)
  refine frame_step (P := fun _ => True) (with_true (store_slot (hoff c))) fun _ _ => ?_
  rw [copy_eq]
  exact self_recv.trans hr

/-- What is held while the result is computed. -/
def besideOut (V : Args F) (K : Dev nD × CI → ℕ) (c : Dev nD) : sProp (MM F) :=
  iprop(Pers V K ∗ Owe c 0 ∗ every (fun i => (phWait V c 0).X i 0) ∗ every (fun i => (phWait V c 2).X i 0) ∗ every (dmaEnd c 3)
    ∗ every (fun i => iprop(theirs V c i ∗ mine V c i)) ∗ Ins V c ∗ semVal (barCell c) 0)

theorem owe_wait (k : Fin 4) (j : ℕ) : (∑ i, (phWait V c k).T i j) + (phWait V c k).rest = 0 := by
  have hT : ∀ i, (phWait V c k).T i j = 0 := fun _ => rfl
  rw [Finset.sum_eq_zero fun i _ => hT i, zero_add]; rfl

/-- All blocks have arrived: the receive buffer is whole. -/
theorem recv_out : iprop((phWait V c 3).at V K c 16 0 ∗ besideRecv V c)
    ⊢ iprop(owns (c : Thread nD τ) rM fullShare (recvAll V c) ∗ outAny c ∗ besideOut V K c) := by
  have h1 : every (fun i => (phWait V c 3).X i 1) ⊢ iprop(every (dmaEnd c 3) ∗ every (fun i => held c rM i (recvV V c i))) :=
    every_unzip fun i => by dsimp only [phWait]; rw [if_neg Nat.one_ne_zero]; exact .rfl
  unfold besideRecv besideOut
  refine (sep_mono_left (Phase.finish V K (phWait V c 3) c)).trans ?_
  rw [show (phWait V c 3).last = 1 from rfl, owe_wait]
  iintro ⟨⟨HP, HX, HO⟩, H0, H2, Htm, Ho, Hi, Hs⟩
  ihave ⟨He, Hr⟩ := h1 $$ HX
  ihave Hr := (whole_of_slots (F := F) c rM (recvV V c)) $$ Hr
  isplitl [Hr]; · iexact Hr
  isplitl [Ho]; · iexact Ho
  isplitl [HP]; · iexact HP
  isplitl [HO]; · iexact HO
  isplitl [H0]; · iexact H0
  isplitl [H2]; · iexact H2
  isplitl [He]; · iexact He
  isplitl [Htm]; · iexact Htm
  isplitl [Hi] <;> iassumption

/-- With the result stored, the waits for the blocks sent to have left begin. -/
theorem out_left : iprop(owns (c : Thread nD τ) oM fullShare (outV V c) ∗ owns (c : Thread nD τ) rM fullShare (recvAll V c) ∗ besideOut V K c)
    ⊢ iprop((phWait V c 0).at V K c 0 0 ∗ besideLeft V c) := by
  unfold besideOut besideLeft
  iintro ⟨Ho, Hr, HP, HO, H0, H2, He, Htm, Hi, Hs⟩
  isplitl [HP H0 HO]
  · iapply (Phase.begin V K (phWait V c 0) c)
    rw [owe_wait]
    isplitl [HP]; · iexact HP
    isplitl [H0] <;> iassumption
  isplitl [H2]; · iexact H2
  isplitl [Htm]; · iexact Htm
  isplitl [He]; · iexact He
  isplitl [Hr]; · iexact Hr
  isplitl [Ho]; · iexact Ho
  isplitl [Hi] <;> iassumption

/-- The received blocks are added up and the sum is stored. -/
theorem step_result {β : Type} {o1 : Fin 3 → ℕ} {o2 : Fin 2 → ℕ} {i1 i2 l1 l2 hx hm} {k : Code F β} {Q : β → sProp (MM F)}
    (hr : iprop((phWait V c 0).at V K c 0 0 ∗ besideLeft V c) ⊢ wpD c k Q)
    (ho1 : o1 = fun _ => 0 := by decide) (ho2 : o2 = fun _ => 0 := by decide) :
    iprop((phWait V c 3).at V K c 16 0 ∗ besideRecv V c)
      ⊢ wpD c (Prog.lift (TpuEff.load rM (Rect.unit (s := S16x32x1024) o1 S16x32x1024.size i1).toLoadRect l1) >>= fun v =>
          Prog.lift (TpuEff.load oM (Rect.unit (s := S32x1024) o2 S32x1024.size i2).toLoadRect l2) >>= fun _ =>
          Prog.lift (TpuEff.store oM (Rect.unit (s := S32x1024) o2 S32x1024.size i2) (k0_pay72 v) Finset.univ hx hm) >>= fun _ => k) Q := by
  refine recv_out.trans (frame_step (load_whole ho1) fun v hv => ?_)
  subst hv
  have h1 : iprop(owns (c : Thread nD τ) rM fullShare (recvAll V c) ∗ outAny c ∗ besideOut V K c)
      ⊢ iprop(outAny c ∗ owns (c : Thread nD τ) rM fullShare (recvAll V c) ∗ besideOut V K c) := by
    iintro ⟨H1, H2, H3⟩
    isplitl [H2]; · iexact H2
    isplitl [H1] <;> iassumption
  refine h1.trans ?_
  unfold outAny
  have h2 : iprop((∃ Y, owns (c : Thread nD τ) oM fullShare Y) ∗ owns (c : Thread nD τ) rM fullShare (recvAll V c) ∗ besideOut V K c)
      ⊢ iprop(∃ Y, owns (c : Thread nD τ) oM fullShare Y ∗ owns (c : Thread nD τ) rM fullShare (recvAll V c) ∗ besideOut V K c) := by
    iintro ⟨⟨%Y, H⟩, H'⟩; iexists Y; isplitl [H] <;> iassumption
  refine h2.trans (exists_elim fun Y => frame_step (load_whole ho2) fun _ _ => ?_)
  exact frame_step (P := fun _ => True) (with_true (store_out ho2)) fun _ _ => out_left.trans hr

/-- After those waits, the last ones begin. -/
theorem left_sent : iprop((phWait V c 0).at V K c 16 0 ∗ besideLeft V c) ⊢ iprop((phWait V c 2).at V K c 0 0 ∗ besideSent V c) := by
  unfold besideLeft besideSent
  refine (sep_mono_left (Phase.finish V K (phWait V c 0) c)).trans ?_
  rw [show (phWait V c 0).last = 1 from rfl, owe_wait]
  iintro ⟨⟨HP, H0, HO⟩, H2, Htm, He, Hr, Ho, Hi, Hs⟩
  isplitl [HP H2 HO]
  · iapply (Phase.begin V K (phWait V c 2) c)
    rw [owe_wait]
    isplitl [HP]; · iexact HP
    isplitl [H2] <;> iassumption
  isplitl [H0]; · iexact H0
  isplitl [Htm]; · iexact Htm
  isplitl [He]; · iexact He
  isplitl [Hr]; · iexact Hr
  isplitl [Ho]; · iexact Ho
  isplitl [Hi] <;> iassumption

/-- The blocks kept and the blocks that had been sent fill the two buffers. -/
theorem own_buffers : iprop(every (fun i => held c (bufB (1 - team c)) i (blkV V (1 - team c) c i)) ∗ every (mine V c))
    ⊢ iprop(anyAll c b0M ∗ anyAll c b1M) := by
  have h : ∀ (M : Sixteen) (X : Fin 16 → Vec F S1x32x1024 .bf16), every (fun i => held c M i (X i)) ⊢ anyAll c M := fun M X => by
    unfold anyAll; exact every_mono fun i => held_any
  refine (BI.sep_mono (h _ _) (h _ _)).trans ?_
  rcases team_cases (team c) with ht | ht
  · rw [ht]; show iprop(anyAll c b1M ∗ anyAll c b0M) ⊢ iprop(anyAll c b0M ∗ anyAll c b1M); exact sep_comm.1
  · rw [ht]; exact BI.Entails.refl _

/-- After the last wait. -/
theorem sent_done : iprop((phWait V c 2).at V K c 16 0 ∗ besideSent V c) ⊢ Done V c := by
  have h2 : every (fun i => (phWait V c 2).X i 1) ⊢ iprop(every (dmaEnd c 2) ∗ anyAll c cM) := by
    unfold anyAll
    exact every_unzip fun i => by
      dsimp only [phWait]; rw [if_neg Nat.one_ne_zero]; exact sep_mono_right held_any
  have h0 : every (fun i => (phWait V c 0).X i 1) ⊢ iprop(every (dmaEnd c 0) ∗ every (fun i => held c (bufB (1 - team c)) i (blkV V (1 - team c) c i))) :=
    every_unzip fun i => by dsimp only [phWait]; rw [if_neg Nat.one_ne_zero]; exact .rfl
  have h1 : every (fun i => iprop(theirs V c i ∗ mine V c i)) ⊢ iprop((every (dmaEnd c 1) ∗ anyAll c xM) ∗ every (mine V c)) := by
    unfold anyAll
    refine (every_unzip fun _ => .rfl).trans (sep_mono_left (every_unzip fun i => sep_mono_right held_any))
  unfold besideSent Done
  refine (sep_mono_left (Phase.finish V K (phWait V c 2) c)).trans ?_
  rw [show (phWait V c 2).last = 1 from rfl, owe_wait]
  iintro ⟨⟨-, H2, HO⟩, H0, Htm, He, Hr, Ho, Hi, Hs⟩
  ihave ⟨H2, Hc⟩ := h2 $$ H2
  ihave ⟨H0, Hb⟩ := h0 $$ H0
  ihave ⟨⟨H1, Hx⟩, Hm⟩ := h1 $$ Htm
  ihave ⟨Hb0, Hb1⟩ := (own_buffers (V := V) (c := c)) $$ [Hb Hm]
  · isplitl [Hb] <;> iassumption
  isplitl [HO]; · iexact HO
  isplitl [Hi]; · iexact Hi
  isplitl [Ho]; · iexact Ho
  isplitl [Hs]; · iexact Hs
  isplitl [H0]; · iexact H0
  isplitl [H1]; · iexact H1
  isplitl [H2]; · iexact H2
  isplitl [He]; · iexact He
  isplitl [Hb0]; · iexact Hb0
  isplitl [Hb1]; · iexact Hb1
  isplitl [Hx]; · iexact Hx
  isplitl [Hc]; · iexact Hc
  iexists _; iexact Hr

end Cert.Combine

end
-- ==== Proof.PartsSend.lean ====
/-
The first stretches of the program, part by part as it is printed: signals, stores, and sends to the partner.
Each theorem takes the state of a loop from where the part begins to where it ends.
-/
module

public import proofs.«01_k».proof.Proof.PhaseX

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The word by which the program names the device's team. -/
def tword (c : Dev nD) : BitVec 32 := BitVec.ofNat 32 (team c).val
/-- The word by which the program names the device's rank. -/
def rword (c : Dev nD) : BitVec 32 := BitVec.ofNat 32 (rank c).val

/-- The program's test whether the device is of team `t`. -/
theorem team_cond {c : Dev nD} (t : Fin 2) : Iff (Scalar.cmpi .ne (Scalar.extui (Scalar.cmpi .eq (tword c) (BitVec.ofNat 32 t.val)) : BitVec 32) 0#32 = 1#1) (team c = t) := by
  revert c t; decide +kernel
/-- The program's test whether the device is of another rank than `g`. -/
theorem rank_cond {c : Dev nD} (g : Fin 16) : Iff (Scalar.cmpi .ne (Scalar.extui (Scalar.cmpi .ne (rword c) (BitVec.ofNat 32 g.val)) : BitVec 32) 0#32 = 1#1) (rank c ≠ g) := by
  revert c g; decide +kernel

variable {V : Args F} {K : Dev nD × CI → ℕ} {c : Dev nD}

/-- The signals to ranks 0 to 5. -/
theorem part3 (v50 v69 v75 z : BitVec 32) {R : sProp (MM F)} {Q} (h : ∀ x, iprop((phBar c).at V K c 6 0 ∗ R) ⊢ Q x) :
    iprop((phBar c).at V K c 0 0 ∗ R) ⊢ wpD c (k0_part3_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c v50 v69 (SemArray.scalar (sig.barrier 0 rfl)) v75 z) Q := by
  unfold k0_part3_skel
  iterate 6 refine step_signal ?_
  exact (h _).trans (le_wp_ret _ _ _ _ _)

/-- The signals to ranks 6 to 11. -/
theorem part4 (v50 v69 v105 z : BitVec 32) {R : sProp (MM F)} {Q} (h : ∀ x, iprop((phBar c).at V K c 12 0 ∗ R) ⊢ Q x) :
    iprop((phBar c).at V K c 6 0 ∗ R) ⊢ wpD c (k0_part4_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c v50 v69 (SemArray.scalar (sig.barrier 0 rfl)) v105 z) Q := by
  unfold k0_part4_skel
  iterate 6 refine step_signal ?_
  exact (h _).trans (le_wp_ret _ _ _ _ _)

/-- The stores from the second for pair 0 to the first for pair 4. -/
theorem part6 {R : sProp (MM F)} {Q} (h : iprop((phStore V c).at V K c 4 1 ∗ R) ⊢ Q (k0_pay12 (part V c))) :
    iprop((phStore V c).at V K c 0 1 ∗ R) ⊢ wpD c (k0_part6_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        (part V c) (k0_pay3 (V.a c) (V.b c))) Q := by
  unfold k0_part6_skel
  iterate 3
    refine step_store1 ?_
    refine step_peek0 (fun _ => ?_)
    refine step_store0 ?_
    refine step_peek1 (fun _ => ?_)
  refine step_store1 ?_
  refine step_peek0 (fun _ => ?_)
  refine step_store0 ?_
  exact h.trans (le_wp_ret _ _ _ _ _)

/-- The stores up to the load before the first for pair 8. -/
theorem part7 {R : sProp (MM F)} {Q} (h : iprop((phStore V c).at V K c 8 0 ∗ R) ⊢ Q (k0_pay20 (part V c))) :
    iprop((phStore V c).at V K c 4 1 ∗ R) ⊢ wpD c (k0_part7_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        (part V c) (k0_pay12 (part V c))) Q := by
  unfold k0_part7_skel
  iterate 3
    refine step_peek1 (fun _ => ?_)
    refine step_store1 ?_
    refine step_peek0 (fun _ => ?_)
    refine step_store0 ?_
  refine step_peek1 (fun _ => ?_)
  refine step_store1 ?_
  refine step_peek0 (fun _ => ?_)
  exact h.trans (le_wp_ret _ _ _ _ _)

/-- The stores up to those for pair 11. -/
theorem part8 {R : sProp (MM F)} {Q} (h : iprop((phStore V c).at V K c 12 0 ∗ R) ⊢ Q (k0_pay29 (part V c))) :
    iprop((phStore V c).at V K c 8 0 ∗ R) ⊢ wpD c (k0_part8_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        (part V c) (k0_pay20 (part V c))) Q := by
  unfold k0_part8_skel
  iterate 3
    refine step_store0 ?_
    refine step_peek1 (fun _ => ?_)
    refine step_store1 ?_
    refine step_peek0 (fun _ => ?_)
  refine step_store0 ?_
  refine step_peek1 (fun _ => ?_)
  refine step_store1 ?_
  exact h.trans (le_wp_ret _ _ _ _ _)

/-- The stores up to the first for pair 15. -/
theorem part9 {R : sProp (MM F)} {Q} (h : iprop((phStore V c).at V K c 15 1 ∗ R) ⊢ Q (k0_pay37 (part V c))) :
    iprop((phStore V c).at V K c 12 0 ∗ R) ⊢ wpD c (k0_part9_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        (part V c) (k0_pay29 (part V c))) Q := by
  unfold k0_part9_skel
  iterate 3
    refine step_peek0 (fun _ => ?_)
    refine step_store0 ?_
    refine step_peek1 (fun _ => ?_)
    refine step_store1 ?_
  refine step_peek0 (fun _ => ?_)
  refine step_store0 ?_
  refine step_peek1 (fun _ => ?_)
  exact h.trans (le_wp_ret _ _ _ _ _)

/-- The sends from the second for block 4 to the first for block 9. -/
theorem part11 (v50 v70 z : BitVec 32) {R : sProp (MM F)} {Q} (h : ∀ x, iprop((phX V c).at V K c 9 1 ∗ R) ⊢ Q x) :
    iprop((phX V c).at V K c 4 1 ∗ R) ⊢ wpD c (k0_part11_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c v50 v70 z) Q := by
  unfold k0_part11_skel
  refine step_send1 k0_dev27 k0_dev27_lt ?_
  refine step_send0 k0_dev28 k0_dev28_lt ?_
  refine step_send1 k0_dev29 k0_dev29_lt ?_
  refine step_send0 k0_dev30 k0_dev30_lt ?_
  refine step_send1 k0_dev31 k0_dev31_lt ?_
  refine step_send0 k0_dev32 k0_dev32_lt ?_
  refine step_send1 k0_dev33 k0_dev33_lt ?_
  refine step_send0 k0_dev34 k0_dev34_lt ?_
  refine step_send1 k0_dev35 k0_dev35_lt ?_
  refine step_send0 k0_dev36 k0_dev36_lt ?_
  exact (h _).trans (le_wp_ret _ _ _ _ _)

/-- The sends from the second for block 9 to the first for block 14. -/
theorem part12 (v50 v70 z : BitVec 32) {R : sProp (MM F)} {Q} (h : ∀ x, iprop((phX V c).at V K c 14 1 ∗ R) ⊢ Q x) :
    iprop((phX V c).at V K c 9 1 ∗ R) ⊢ wpD c (k0_part12_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c v50 v70 z) Q := by
  unfold k0_part12_skel
  refine step_send1 k0_dev37 k0_dev37_lt ?_
  refine step_send0 k0_dev38 k0_dev38_lt ?_
  refine step_send1 k0_dev39 k0_dev39_lt ?_
  refine step_send0 k0_dev40 k0_dev40_lt ?_
  refine step_send1 k0_dev41 k0_dev41_lt ?_
  refine step_send0 k0_dev42 k0_dev42_lt ?_
  refine step_send1 k0_dev43 k0_dev43_lt ?_
  refine step_send0 k0_dev44 k0_dev44_lt ?_
  refine step_send1 k0_dev45 k0_dev45_lt ?_
  refine step_send0 k0_dev46 k0_dev46_lt ?_
  exact (h _).trans (le_wp_ret _ _ _ _ _)

end Cert.Combine

end
-- ==== Proof.PartsMain.lean ====
/-
The main loop, part by part as it is printed. Each theorem takes the state of the loop from where the part begins
to where it ends.
-/
module

public import proofs.«01_k».proof.Proof.PhaseMain
public import proofs.«01_k».proof.Proof.PartsSend

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {V : Args F} {K : Dev nD × CI → ℕ} {c : Dev nD}

/-- Pair 1, and pair 2 up to the addition on team 0. -/
theorem part14 (v70 v401 : BitVec 32) {R : sProp (MM F)} {Q} (h : iprop((phMain V c).at V K c 2 2 ∗ R) ⊢ Q (Scalar.cmpi .eq (tword c) 1#32)) :
    iprop((phMain V c).at V K c 1 0 ∗ R) ⊢ wpD c (k0_part14_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c (tword c) (rword c) v70 v401) Q := by
  unfold k0_part14_skel
  refine step_arrive ?_
  refine step_add0 (team_cond 0) ?_
  refine step_add1 (team_cond 1) ?_
  refine step_sendR k0_dev51 k0_dev51_lt k0_off4 k0_off3 ?_
  refine step_arrive ?_
  refine step_add0 (team_cond 0) ?_
  exact h.trans (le_wp_ret _ _ _ _ _)

/-- The rest of pair 2, and pair 3. -/
theorem part15 (v70 : BitVec 32) {R : sProp (MM F)} {Q} (h : ∀ x, iprop((phMain V c).at V K c 4 0 ∗ R) ⊢ Q x) :
    iprop((phMain V c).at V K c 2 2 ∗ R) ⊢ wpD c (k0_part15_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c (tword c) (rword c) v70 (Scalar.cmpi .eq (tword c) 1#32)) Q := by
  unfold k0_part15_skel
  refine step_add1 (team_cond 1) ?_
  refine step_sendR k0_dev52 k0_dev52_lt k0_off6 k0_off5 ?_
  refine step_arrive ?_
  refine step_add0 (team_cond 0) ?_
  refine step_add1 (team_cond 1) ?_
  refine step_sendR k0_dev53 k0_dev53_lt k0_off8 k0_off7 ?_
  exact (h _).trans (le_wp_ret _ _ _ _ _)

/-- Pair 4, and pair 5 up to the addition on team 0. -/
theorem part16 (v70 : BitVec 32) {R : sProp (MM F)} {Q} (h : iprop((phMain V c).at V K c 5 2 ∗ R) ⊢ Q (Scalar.cmpi .ne (Scalar.extui (Scalar.cmpi .eq (tword c) 1#32) : BitVec 32) 0#32)) :
    iprop((phMain V c).at V K c 4 0 ∗ R) ⊢ wpD c (k0_part16_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c (tword c) (rword c) v70) Q := by
  unfold k0_part16_skel
  refine step_arrive ?_
  refine step_add0 (team_cond 0) ?_
  refine step_add1 (team_cond 1) ?_
  refine step_sendR k0_dev54 k0_dev54_lt k0_off10 k0_off9 ?_
  refine step_arrive ?_
  refine step_add0 (team_cond 0) ?_
  exact h.trans (le_wp_ret _ _ _ _ _)

/-- The rest of pair 5, and pair 6. -/
theorem part17 (v70 : BitVec 32) {R : sProp (MM F)} {Q} (h : ∀ x, iprop((phMain V c).at V K c 7 0 ∗ R) ⊢ Q x) :
    iprop((phMain V c).at V K c 5 2 ∗ R) ⊢ wpD c (k0_part17_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c (tword c) (rword c) v70 (Scalar.cmpi .ne (Scalar.extui (Scalar.cmpi .eq (tword c) 1#32) : BitVec 32) 0#32)) Q := by
  unfold k0_part17_skel
  refine step_add1 (team_cond 1) ?_
  refine step_sendR k0_dev55 k0_dev55_lt k0_off12 k0_off11 ?_
  refine step_arrive ?_
  refine step_add0 (team_cond 0) ?_
  refine step_add1 (team_cond 1) ?_
  refine step_sendR k0_dev56 k0_dev56_lt k0_off14 k0_off13 ?_
  exact (h _).trans (le_wp_ret _ _ _ _ _)

/-- Pair 7, and pair 8 up to the additions. -/
theorem part18 (v70 : BitVec 32) {R : sProp (MM F)} {Q} (h : ∀ x, iprop((phMain V c).at V K c 8 3 ∗ R) ⊢ Q x) :
    iprop((phMain V c).at V K c 7 0 ∗ R) ⊢ wpD c (k0_part18_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c (tword c) (rword c) v70) Q := by
  unfold k0_part18_skel
  refine step_arrive ?_
  refine step_add0 (team_cond 0) ?_
  refine step_add1 (team_cond 1) ?_
  refine step_sendR k0_dev57 k0_dev57_lt k0_off16 k0_off15 ?_
  refine step_arrive ?_
  refine step_add0 (team_cond 0) ?_
  refine step_add1 (team_cond 1) ?_
  exact (h _).trans (le_wp_ret _ _ _ _ _)

/-- The send of pair 8, and pair 9. -/
theorem part19 (v70 z : BitVec 32) {R : sProp (MM F)} {Q} (h : ∀ x, iprop((phMain V c).at V K c 10 0 ∗ R) ⊢ Q x) :
    iprop((phMain V c).at V K c 8 3 ∗ R) ⊢ wpD c (k0_part19_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c (tword c) (rword c) v70 z) Q := by
  unfold k0_part19_skel
  refine step_sendR k0_dev58 k0_dev58_lt k0_off18 k0_off17 ?_
  refine step_arrive ?_
  refine step_add0 (team_cond 0) ?_
  refine step_add1 (team_cond 1) ?_
  refine step_sendR k0_dev59 k0_dev59_lt k0_off20 k0_off19 ?_
  exact (h _).trans (le_wp_ret _ _ _ _ _)

/-- Pair 10, and pair 11 up to the additions. -/
theorem part20 (v70 : BitVec 32) {R : sProp (MM F)} {Q} (h : ∀ x, iprop((phMain V c).at V K c 11 3 ∗ R) ⊢ Q x) :
    iprop((phMain V c).at V K c 10 0 ∗ R) ⊢ wpD c (k0_part20_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c (tword c) (rword c) v70) Q := by
  unfold k0_part20_skel
  refine step_arrive ?_
  refine step_add0 (team_cond 0) ?_
  refine step_add1 (team_cond 1) ?_
  refine step_sendR k0_dev60 k0_dev60_lt k0_off22 k0_off21 ?_
  refine step_arrive ?_
  refine step_add0 (team_cond 0) ?_
  refine step_add1 (team_cond 1) ?_
  exact (h _).trans (le_wp_ret _ _ _ _ _)

/-- The send of pair 11, and pair 12. -/
theorem part21 (v70 y z : BitVec 32) {R : sProp (MM F)} {Q} (h : ∀ x, iprop((phMain V c).at V K c 13 0 ∗ R) ⊢ Q x) :
    iprop((phMain V c).at V K c 11 3 ∗ R) ⊢ wpD c (k0_part21_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c (tword c) (rword c) v70 y z) Q := by
  unfold k0_part21_skel
  refine step_sendR k0_dev61 k0_dev61_lt k0_off24 k0_off23 ?_
  refine step_arrive ?_
  refine step_add0 (team_cond 0) ?_
  refine step_add1 (team_cond 1) ?_
  refine step_sendR k0_dev62 k0_dev62_lt k0_off26 k0_off25 ?_
  exact (h _).trans (le_wp_ret _ _ _ _ _)

/-- Pair 13, and pair 14 up to the additions. -/
theorem part22 (v70 : BitVec 32) {R : sProp (MM F)} {Q} (h : ∀ x y, iprop((phMain V c).at V K c 14 3 ∗ R) ⊢ Q ⟨x, y, 0#32⟩) :
    iprop((phMain V c).at V K c 13 0 ∗ R) ⊢ wpD c (k0_part22_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c (tword c) (rword c) v70) Q := by
  unfold k0_part22_skel
  refine step_arrive ?_
  refine step_add0 (team_cond 0) ?_
  refine step_add1 (team_cond 1) ?_
  refine step_sendR k0_dev63 k0_dev63_lt k0_off28 k0_off27 ?_
  refine step_arrive ?_
  refine step_add0 (team_cond 0) ?_
  refine step_add1 (team_cond 1) ?_
  exact (h _ _).trans (le_wp_ret _ _ _ _ _)

end Cert.Combine

end
-- ==== Proof.PartsWait.lean ====
/-
The waits at the end, part by part as the program is printed. Each theorem takes the state of a loop from where
the part begins to where it ends.
-/
module

public import proofs.«01_k».proof.Proof.PhaseWait
public import proofs.«01_k».proof.Proof.PartsSend

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {V : Args F} {K : Dev nD × CI → ℕ} {c : Dev nD}

/-- The waits for the combined blocks of ranks 1 to 10 to arrive. -/
theorem part24 (v70 : BitVec 32) {R : sProp (MM F)} {Q} (h : iprop((phWait V c 3).at V K c 11 0 ∗ R) ⊢ Q 11#32) :
    iprop((phWait V c 3).at V K c 1 0 ∗ R) ⊢ wpD c (k0_part24_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        (rword c) v70 1#32) Q := by
  unfold k0_part24_skel
  refine step_recv (rank_cond 1) ?_
  refine step_recv (rank_cond 2) ?_
  refine step_recv (rank_cond 3) ?_
  refine step_recv (rank_cond 4) ?_
  refine step_recv (rank_cond 5) ?_
  refine step_recv (rank_cond 6) ?_
  refine step_recv (rank_cond 7) ?_
  refine step_recv (rank_cond 8) ?_
  refine step_recv (rank_cond 9) ?_
  refine step_recv (rank_cond 10) ?_
  exact h.trans (le_wp_ret _ _ _ _ _)

/-- The waits for blocks 1 to 4 sent to the partner to have left. -/
theorem part26 {R : sProp (MM F)} {Q} (h : ∀ x, iprop((phWait V c 0).at V K c 5 0 ∗ R) ⊢ Q x) :
    iprop((phWait V c 0).at V K c 1 0 ∗ R) ⊢ wpD c (k0_part26_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8) Q := by
  unfold k0_part26_skel
  iterate 4 refine step_left ?_
  exact (h _).trans (le_wp_ret _ _ _ _ _)

/-- The waits for blocks 5 to 9 sent to the partner to have left. -/
theorem part27 {R : sProp (MM F)} {Q} (h : ∀ x, iprop((phWait V c 0).at V K c 10 0 ∗ R) ⊢ Q x) :
    iprop((phWait V c 0).at V K c 5 0 ∗ R) ⊢ wpD c (k0_part27_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8) Q := by
  unfold k0_part27_skel
  iterate 5 refine step_left ?_
  exact (h _).trans (le_wp_ret _ _ _ _ _)

/-- The waits for blocks 10 to 13 sent to the partner to have left. -/
theorem part28 {R : sProp (MM F)} {Q} (h : ∀ x, iprop((phWait V c 0).at V K c 14 0 ∗ R) ⊢ Q x) :
    iprop((phWait V c 0).at V K c 10 0 ∗ R) ⊢ wpD c (k0_part28_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8) Q := by
  unfold k0_part28_skel
  iterate 4 refine step_left ?_
  exact (h _).trans (le_wp_ret _ _ _ _ _)

/-- The waits for the combined blocks sent to ranks 6 to 15 to have left. -/
theorem part30 (v69 : BitVec 32) {R : sProp (MM F)} {Q} (h : ∀ x, iprop((phWait V c 2).at V K c 16 0 ∗ R) ⊢ Q x) :
    iprop((phWait V c 2).at V K c 6 0 ∗ R) ⊢ wpD c (k0_part30_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c v69) Q := by
  unfold k0_part30_skel
  iterate 10 refine step_sent ?_
  exact (h _).trans (le_wp_ret _ _ _ _ _)

end Cert.Combine

end
-- ==== Proof.PartsSeam.lean ====
/-
The stretches of the program in which one loop ends and the next begins, part by part as it is printed.
-/
module

public import proofs.«01_k».proof.Proof.Seams
public import proofs.«01_k».proof.Proof.PartsSend
public import proofs.«01_k».proof.Proof.PartsMain
public import proofs.«01_k».proof.Proof.PartsWait

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {V : Args F} {K : Dev nD × CI → ℕ} {c : Dev nD}

/-- The first signal, to the partner. -/
theorem step_first {β : Type} {d : Dev nD} {k : PUnit → Code F β} {Q : β → sProp (MM F)} (hd : d = peer c (rank c))
    (hr : iprop((phBar c).at V K c 0 0 ∗ besideBar V c) ⊢ wpD c (k ⟨⟩) Q) :
    Start V K c ⊢ wpD c (semSignalWord d barS 1#32 >>= k) Q := by
  subst hd
  have h1 : iprop((Pers V K ∗ barTok c (rank c) ∗ handed c (rank c) ∗ Owe c (oweBar c (rank c) + ((∑ i, (phBar c : Phase F).T i 0) + (phBar c : Phase F).rest)))
        ∗ every (fun i => (phBar c).X i 0) ∗ besideBar V c)
      ⊢ iprop((Pers V K ∗ barTok c (rank c) ∗ handed c (rank c) ∗ Owe c (oweBar c (rank c) + ((∑ i, (phBar c : Phase F).T i 0) + (phBar c : Phase F).rest)))
        ∗ Pers V K ∗ every (fun i => (phBar c).X i 0) ∗ besideBar V c) := by
    iintro ⟨⟨#HP, H1, H2, H3⟩, H4, H5⟩
    isplitl [H1 H2 H3]
    · isplitr; · iexact HP
      isplitl [H1]; · iexact H1
      isplitl [H2] <;> iassumption
    isplitr; · iexact HP
    isplitl [H4] <;> iassumption
  refine (start_bar.trans h1).trans (frame_step (P := fun _ => True) (with_true (signal_at V K c (rank c) _)) fun _ _ => ?_)
  have h2 : iprop(Owe c ((∑ i, (phBar c : Phase F).T i 0) + (phBar c : Phase F).rest) ∗ Pers V K ∗ every (fun i => (phBar c).X i 0) ∗ besideBar V c)
      ⊢ iprop((Pers V K ∗ every (fun i => (phBar c).X i 0) ∗ Owe c ((∑ i, (phBar c : Phase F).T i 0) + (phBar c : Phase F).rest)) ∗ besideBar V c) := by
    iintro ⟨H1, H2, H3, H4⟩
    isplitr [H4]
    · isplitl [H2]; · iexact H2
      isplitl [H3] <;> iassumption
    iexact H4
  exact (h2.trans (sep_mono_left (Phase.begin V K (phBar c) c))).trans hr

/-- The two blocks of the arguments are loaded. -/
theorem step_inputs {β : Type} {o1 o2 : Fin 2 → ℕ} {i1 i2 l1 l2} {k : Vec F S1024x512 .bf16 → Vec F S512x1024 .bf16 → Code F β} {Q : β → sProp (MM F)}
    (hr : iprop((phStore V c).at V K c 0 0 ∗ fresh c ∗ late V c) ⊢ wpD c (k (V.a c) (V.b c)) Q)
    (ho1 : o1 = fun _ => 0 := by decide) (ho2 : o2 = fun _ => 0 := by decide) :
    iprop((phBar c).at V K c 16 0 ∗ besideBar V c)
      ⊢ wpD c (Prog.lift (TpuEff.load aM (Rect.unit (s := S1024x512) o1 S1024x512.size i1).toLoadRect l1) >>= fun v =>
          Prog.lift (TpuEff.load bM (Rect.unit (s := S512x1024) o2 S512x1024.size i2).toLoadRect l2) >>= fun w => k v w) Q := by
  have h0 : iprop((phStore V c).at V K c 0 0 ∗ fresh c ∗ late V c)
      ⊢ iprop(owns (c : Thread nD τ) aM fullShare (V.a c) ∗ owns (c : Thread nD τ) bM fullShare (V.b c) ∗ (phStore V c).at V K c 0 0 ∗ fresh c
        ∗ every (dmaPos c 0) ∗ every (dmaPos c 2) ∗ every (awaitR c) ∗ anyAt c rM (rank c) ∗ outAny c) := by
    unfold late Ins
    iintro ⟨H1, H2, H3, H4, H5, H6, H7, H8, H9⟩
    isplitl [H8]; · iexact H8
    isplitl [H9]; · iexact H9
    isplitl [H1]; · iexact H1
    isplitl [H2]; · iexact H2
    isplitl [H3]; · iexact H3
    isplitl [H4]; · iexact H4
    isplitl [H5]; · iexact H5
    isplitl [H6] <;> iassumption
  refine (bar_store.trans h0).trans (frame_step (load_whole ho1) fun v hv => ?_)
  subst hv
  have h1 : iprop(owns (c : Thread nD τ) aM fullShare (V.a c) ∗ owns (c : Thread nD τ) bM fullShare (V.b c) ∗ (phStore V c).at V K c 0 0 ∗ fresh c
        ∗ every (dmaPos c 0) ∗ every (dmaPos c 2) ∗ every (awaitR c) ∗ anyAt c rM (rank c) ∗ outAny c)
      ⊢ iprop(owns (c : Thread nD τ) bM fullShare (V.b c) ∗ owns (c : Thread nD τ) aM fullShare (V.a c) ∗ (phStore V c).at V K c 0 0 ∗ fresh c
        ∗ every (dmaPos c 0) ∗ every (dmaPos c 2) ∗ every (awaitR c) ∗ anyAt c rM (rank c) ∗ outAny c) := by
    iintro ⟨H1, H2, H3⟩
    isplitl [H2]; · iexact H2
    isplitl [H1] <;> iassumption
  refine h1.trans (frame_step (load_whole ho2) fun w hw => ?_)
  subst hw
  refine BI.Entails.trans ?_ hr
  unfold late Ins
  show iprop(owns (c : Thread nD τ) bM fullShare (V.b c) ∗ owns (c : Thread nD τ) aM fullShare (V.a c) ∗ (phStore V c).at V K c 0 0 ∗ fresh c
        ∗ every (dmaPos c 0) ∗ every (dmaPos c 2) ∗ every (awaitR c) ∗ anyAt c rM (rank c) ∗ outAny c) ⊢ _
  iintro ⟨H9, H8, H1, H2, H3, H4, H5, H6, H7⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8] <;> iassumption

/-- The device reads its number and begins to compute its team and rank. -/
theorem part1 {A : sProp (MM F)} {Q} (h : ∀ x2 x29 x31 x32 x37, x2 = BitVec.ofNat 32 c.val → x29 = BitVec.ofNat 32 (c.val % 8 / 2) → x31 = 2#32
      → x32 = BitVec.ofNat 32 (c.val % 8 % 2) → x37 = 0#1 → A ⊢ Q ⟨c, x2, x29, x31, x32, x37⟩) :
    A ⊢ wpD c (k0_part1_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8) Q := by
  unfold k0_part1_skel wpD Prog.lift
  rw [Prog.bind_op, wp_deviceId]
  refine (h _ _ _ _ _ ?_ ?_ ?_ ?_ ?_).trans (le_wp_ret _ _ _ _ _)
  iterate 5
    clear h
    revert c
    decide +kernel

/-- The device computes its team and rank, and signals its partner. -/
theorem part2 {Q} (h : ∀ x50 x69 x y, x50 = tword c → x69 = rword c
      → iprop((phBar c).at V K c 0 0 ∗ besideBar V c) ⊢ Q ⟨x50, x69, x, SemArray.scalar (sig.barrier 0 rfl), y, 0#32⟩) :
    Start V K c ⊢ wpD c (k0_part2_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
      c (BitVec.ofNat 32 c.val) (BitVec.ofNat 32 (c.val % 8 / 2)) 2#32 (BitVec.ofNat 32 (c.val % 8 % 2)) 0#1) Q := by
  unfold k0_part2_skel
  refine step_first (by clear h; revert c; decide +kernel) ?_
  refine (h _ _ _ _ ?_ ?_).trans (le_wp_ret _ _ _ _ _)
  iterate 2
    clear h
    revert c
    decide +kernel

/-- The signals to ranks 12 to 15, the loads of the arguments, and the first store for pair 0. -/
theorem part5 (v50 v69 v135 z : BitVec 32) {Q} (h : iprop((phStore V c).at V K c 0 1 ∗ fresh c ∗ late V c) ⊢ Q ⟨part V c, k0_pay3 (V.a c) (V.b c)⟩) :
    iprop((phBar c).at V K c 12 0 ∗ besideBar V c) ⊢ wpD c (k0_part5_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c v50 v69 (SemArray.scalar (sig.barrier 0 rfl)) v135 z) Q := by
  unfold k0_part5_skel
  iterate 4 refine step_signal ?_
  refine step_inputs ?_
  refine step_peek0 (fun _ => ?_)
  refine step_store0 ?_
  refine step_peek1 (fun _ => ?_)
  exact h.trans (le_wp_ret _ _ _ _ _)

/-- The last store, the wait for the sixteen signals, and the sends up to the first for block 4. -/
theorem part10 (v50 v70 : BitVec 32) {Q} (h : ∀ x, iprop((phX V c).at V K c 4 1 ∗ besideX V c) ⊢ Q x) :
    iprop((phStore V c).at V K c 15 1 ∗ fresh c ∗ late V c) ⊢ wpD c (k0_part10_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c v50 v70 (SemArray.scalar (sig.barrier 0 rfl)) (k0_pay37 (part V c))) Q := by
  unfold k0_part10_skel
  refine step_store1 ?_
  refine step_barrier ?_
  refine step_send0 k0_dev18 k0_dev18_lt ?_
  refine step_send1 k0_dev19 k0_dev19_lt ?_
  refine step_send0 k0_dev20 k0_dev20_lt ?_
  refine step_send1 k0_dev21 k0_dev21_lt ?_
  refine step_send0 k0_dev22 k0_dev22_lt ?_
  refine step_send1 k0_dev23 k0_dev23_lt ?_
  refine step_send0 k0_dev24 k0_dev24_lt ?_
  refine step_send1 k0_dev25 k0_dev25_lt ?_
  refine step_send0 k0_dev26 k0_dev26_lt ?_
  exact (h _).trans (le_wp_ret _ _ _ _ _)

/-- The last sends, and pair 0 of the main loop. -/
theorem part13 (v70 z : BitVec 32) {Q} (h : ∀ x, iprop((phMain V c).at V K c 1 0 ∗ besideMain V c) ⊢ Q x) :
    iprop((phX V c).at V K c 14 1 ∗ besideX V c) ⊢ wpD c (k0_part13_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c (tword c) (rword c) v70 z) Q := by
  unfold k0_part13_skel
  refine step_send1 k0_dev47 k0_dev47_lt ?_
  refine step_send0 k0_dev48 k0_dev48_lt ?_
  refine step_send1 k0_dev49 k0_dev49_lt ?_
  refine X_main.trans ?_
  refine step_arrive ?_
  refine step_add0 (team_cond 0) ?_
  refine step_add1 (team_cond 1) ?_
  refine step_sendR k0_dev50 k0_dev50_lt k0_off2 k0_off1 ?_
  exact (h _).trans (le_wp_ret _ _ _ _ _)

/-- The send of pair 14, pair 15, the copy of the device's own block, and the first wait for a combined block. -/
theorem part23 (v70 x y : BitVec 32) {Q} (h : iprop((phWait V c 3).at V K c 1 0 ∗ besideRecv V c) ⊢ Q 1#32) :
    iprop((phMain V c).at V K c 14 3 ∗ besideMain V c) ⊢ wpD c (k0_part23_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c (tword c) (rword c) v70 x y 0#32) Q := by
  unfold k0_part23_skel
  refine step_sendR k0_dev64 k0_dev64_lt k0_off30 k0_off29 ?_
  refine step_arrive ?_
  refine step_add0 (team_cond 0) ?_
  refine step_add1 (team_cond 1) ?_
  refine step_sendR k0_dev65 k0_dev65_lt k0_off32 k0_off31 ?_
  refine step_self ?_
  refine step_recv (rank_cond 0) ?_
  exact h.trans (le_wp_ret _ _ _ _ _)

/-- The last waits for combined blocks, the result, and the first wait for a block to have left. -/
theorem part25 (v70 : BitVec 32) {Q} (h : ∀ x, iprop((phWait V c 0).at V K c 1 0 ∗ besideLeft V c) ⊢ Q x) :
    iprop((phWait V c 3).at V K c 11 0 ∗ besideRecv V c) ⊢ wpD c (k0_part25_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        (rword c) v70 11#32) Q := by
  unfold k0_part25_skel
  refine step_recv (rank_cond 11) ?_
  refine step_recv (rank_cond 12) ?_
  refine step_recv (rank_cond 13) ?_
  refine step_recv (rank_cond 14) ?_
  refine step_recv (rank_cond 15) ?_
  refine step_result ?_
  refine step_left ?_
  exact (h _).trans (le_wp_ret _ _ _ _ _)

/-- The last waits for blocks sent to the partner, and the first for combined blocks to have left. -/
theorem part29 (v69 : BitVec 32) {Q} (h : ∀ x, iprop((phWait V c 2).at V K c 6 0 ∗ besideSent V c) ⊢ Q x) :
    iprop((phWait V c 0).at V K c 14 0 ∗ besideLeft V c) ⊢ wpD c (k0_part29_skel aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8
        c v69) Q := by
  unfold k0_part29_skel
  refine step_left ?_
  refine step_left ?_
  refine left_sent.trans ?_
  iterate 6 refine step_sent ?_
  exact (h _).trans (le_wp_ret _ _ _ _ _)

end Cert.Combine

end
-- ==== Proof.Body.lean ====
/-
The whole program of one device: the parts one after another.
-/
module

public import proofs.«01_k».proof.Proof.PartsSeam

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {V : Args F} {K : Dev nD × CI → ℕ} {c : Dev nD}

/-- One part, then what follows it. -/
theorem run_part {α β : Type} {A : sProp (MM F)} {s : Code F α} {k : α → Code F β} {Q : β → sProp (MM F)}
    (h : A ⊢ wpD c s fun v => wpD c (k v) Q) : A ⊢ wpD c (s >>= k) Q := by
  unfold wpD at h ⊢; rw [wp_bind]; exact h

/-- The program runs from what a device starts with to what it ends with, and stops. -/
theorem body_runs : Start V K c ⊢ wpD c (cc0_body aM (Memref.isWhole_whole _) bM (Memref.isWhole_whole _) oM (Memref.isWhole_whole _)
        b0M (Memref.isWhole_whole _) b1M (Memref.isWhole_whole _) xM (Memref.isWhole_whole _) cM (Memref.isWhole_whole _) rM (Memref.isWhole_whole _)
        cc0_scratch5 cc0_scratch6 cc0_scratch7 cc0_scratch8) (fun _ => Done V c) := by
  rw [cc0_body_eq_skeleton]
  unfold cc0_body_skel
  refine run_part ?_
  rw [k0_part1_eq_skeleton]
  refine part1 fun _ _ _ _ _ h2 h29 h31 h32 h37 => ?_
  subst h2 h29 h31 h32 h37
  refine run_part ?_
  rw [k0_part2_eq_skeleton]
  refine part2 fun _ _ _ _ h50 h69 => ?_
  subst h50 h69
  refine run_part ?_
  rw [k0_part3_eq_skeleton]
  refine part3 _ _ _ _ fun _ => ?_
  refine run_part ?_
  rw [k0_part4_eq_skeleton]
  refine part4 _ _ _ _ fun _ => ?_
  refine run_part ?_
  rw [k0_part5_eq_skeleton]
  refine part5 _ _ _ _ ?_
  refine run_part ?_
  rw [k0_part6_eq_skeleton]
  refine part6 ?_
  refine run_part ?_
  rw [k0_part7_eq_skeleton]
  refine part7 ?_
  refine run_part ?_
  rw [k0_part8_eq_skeleton]
  refine part8 ?_
  refine run_part ?_
  rw [k0_part9_eq_skeleton]
  refine part9 ?_
  refine run_part ?_
  rw [k0_part10_eq_skeleton]
  refine part10 _ _ fun _ => ?_
  refine run_part ?_
  rw [k0_part11_eq_skeleton]
  refine part11 _ _ _ fun _ => ?_
  refine run_part ?_
  rw [k0_part12_eq_skeleton]
  refine part12 _ _ _ fun _ => ?_
  refine run_part ?_
  rw [k0_part13_eq_skeleton]
  refine part13 _ _ fun _ => ?_
  refine run_part ?_
  rw [k0_part14_eq_skeleton]
  refine part14 _ _ ?_
  refine run_part ?_
  rw [k0_part15_eq_skeleton]
  refine part15 _ fun _ => ?_
  refine run_part ?_
  rw [k0_part16_eq_skeleton]
  refine part16 _ ?_
  refine run_part ?_
  rw [k0_part17_eq_skeleton]
  refine part17 _ fun _ => ?_
  refine run_part ?_
  rw [k0_part18_eq_skeleton]
  refine part18 _ fun _ => ?_
  refine run_part ?_
  rw [k0_part19_eq_skeleton]
  refine part19 _ _ fun _ => ?_
  refine run_part ?_
  rw [k0_part20_eq_skeleton]
  refine part20 _ fun _ => ?_
  refine run_part ?_
  rw [k0_part21_eq_skeleton]
  refine part21 _ _ _ fun _ => ?_
  refine run_part ?_
  rw [k0_part22_eq_skeleton]
  refine part22 _ fun _ _ => ?_
  refine run_part ?_
  rw [k0_part23_eq_skeleton]
  refine part23 _ _ _ ?_
  refine run_part ?_
  rw [k0_part24_eq_skeleton]
  refine part24 _ ?_
  refine run_part ?_
  rw [k0_part25_eq_skeleton]
  refine part25 _ fun _ => ?_
  refine run_part ?_
  rw [k0_part26_eq_skeleton]
  refine part26 fun _ => ?_
  refine run_part ?_
  rw [k0_part27_eq_skeleton]
  refine part27 fun _ => ?_
  refine run_part ?_
  rw [k0_part28_eq_skeleton]
  refine part28 fun _ => ?_
  refine run_part ?_
  rw [k0_part29_eq_skeleton]
  refine part29 _ fun _ => ?_
  refine run_part ?_
  rw [k0_part30_eq_skeleton]
  refine part30 _ fun _ => ?_
  refine sent_done.trans ?_
  unfold wpD
  rw [Prog.pure_eq_ret, wp_ret]
  exact fupd_intro

end Cert.Combine

end
-- ==== Proof.Deal.lean ====
/-
Before the program starts: the tokens of the exchange are made, dealt to the devices that pay with them, and every
semaphore's invariant is established.
-/
module

public import proofs.«01_k».proof.Proof.Gen.KernelIdeal.Launch
public import proofs.«01_k».proof.Proof.Body

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The tokens -/

/-- A semaphore and a duty there: row 0 the barrier's sixteen duties, rows 1 to 4 the transfer semaphores' only ones. -/
def tokSem (a : Fin 5 × Fin 16) : CI := if h : a.1 = 0 then none else some (a.1.pred h, a.2)
def tokDuty (a : Fin 5 × Fin 16) : Fin 16 := if a.1 = 0 then a.2 else 0
theorem tok_injective : ∀ a b, tokSem a = tokSem b → tokDuty a = tokDuty b → a = b := by decide +kernel

/-- The tokens as they are made, one device's and then the next's. -/
def tokOf (x : Dev nD × (Fin 5 × Fin 16)) : GSem nD τ sig × ℕ × Fin 16 := (kcell (x.1, tokSem x.2), 0, tokDuty x.2)
theorem tokOf_injective : Function.Injective tokOf := by
  rintro ⟨c, a⟩ ⟨c', a'⟩ h
  have h1 : ((c, tokSem a) : Dev nD × CI) = (c', tokSem a') := kcell_injective (congrArg Prod.fst h)
  have h2 : tokDuty a = tokDuty a' := congrArg (fun y : GSem nD τ sig × ℕ × Fin 16 => y.2.2) h
  exact Prod.ext (Prod.mk.inj h1).1 (tok_injective a a' (Prod.mk.inj h1).2 h2)

def allCells : Finset (GSem nD τ sig) := Finset.univ.map ⟨kcell, kcell_injective⟩
def allToks : Finset (GSem nD τ sig × ℕ × Fin 16) := Finset.univ.map ⟨tokOf, tokOf_injective⟩

/-- The element the run's ghost state starts from. -/
def u₀ : UU := (initOf (Pipeline.cells cfgs cellOf_inj) (Pipeline.launchToks cfgs cellOf_inj), initOf allCells allToks)

variable (V : Args F) (K : Dev nD × CI → ℕ) (c : Dev nD)

/-- The tokens of a device's own semaphores, -/
def toks : sProp (MM F) :=
  iprop((every fun d => dutyTok (ER F) (barCell c) 0 d) ∗ every (dmaTok c 0) ∗ every (dmaTok c 1) ∗ every (dmaTok c 2) ∗ every (dmaTok c 3))
/-- and those it pays with. -/
def payToks : sProp (MM F) := iprop(every (barTok c) ∗ every (tokX c) ∗ every (tokR c))

/-- What a device is given first. -/
def G : sProp (MM F) :=
  iprop((bigSep Finset.univ fun k : CI => roundState (ER F) (sch V) (kcell (c, k)) 0)
    ∗ (bigSep Finset.univ fun k : CI => iprop(atPos (ER F) (kcell (c, k)) 0 ∅ 0 ∗ reached (ER F) (kcell (c, k)) 0)) ∗ toks c)

/-- Every invariant, and that every semaphore is at its round. -/
def records : sProp (MM F) :=
  iprop((bigSep Finset.univ fun ck => cellInv (ER F) (sch V) (K ck) (kcell ck)) ∗ (bigSep Finset.univ fun ck => reached (ER F) (kcell ck) 0))
instance records_persistent : BI.Persistent (records V K) := by unfold records; infer_instance
/-- A device's positions and tokens. -/
def own : sProp (MM F) := iprop((bigSep Finset.univ fun k : CI => atPos (ER F) (kcell (c, k)) 0 ∅ 0) ∗ payToks c)
/-- What a device has once all is dealt. -/
def G' : sProp (MM F) := iprop(∃ K, records V K ∗ own c)

omit [FloatOps F] in
/-- One assertion for each semaphore of the exchange: the barrier's, and the transfer semaphores'. -/
theorem over_sems (Φ : CI → sProp (MM F)) : bigSep Finset.univ Φ = iprop(Φ none ∗ bigSep Finset.univ fun k : Fin 4 × Fin 16 => Φ (some k)) := by
  have h : (Finset.univ.erase none : Finset CI) = Finset.univ.map Function.Embedding.some := by
    ext x; cases x <;> simp
  rw [bigSep_erase (Finset.mem_univ none), h, bigSep_map]; rfl
omit [FloatOps F] in
/-- The transfer semaphores', array by array. -/
theorem over_arrays (Φ : Fin 4 × Fin 16 → sProp (MM F)) : bigSep Finset.univ Φ
    = iprop((every fun i => Φ (0, i)) ∗ (every fun i => Φ (1, i)) ∗ (every fun i => Φ (2, i)) ∗ every fun i => Φ (3, i)) := by
  rw [bigSep_univ_prod, bigSep_univ_eq_bigSepL [(0 : Fin 4), 1, 2, 3] (by decide) (by decide)]; rfl
omit [FloatOps F] in
/-- The tokens, row by row. -/
theorem over_rows (Φ : Fin 5 × Fin 16 → sProp (MM F)) : bigSep Finset.univ Φ
    = iprop((every fun i => Φ (0, i)) ∗ (every fun i => Φ (1, i)) ∗ (every fun i => Φ (2, i)) ∗ (every fun i => Φ (3, i)) ∗ every fun i => Φ (4, i)) := by
  rw [bigSep_univ_prod, bigSep_univ_eq_bigSepL [(0 : Fin 5), 1, 2, 3, 4] (by decide) (by decide)]; rfl

/-- The starting element makes what each device is given first. -/
theorem fund : BI.own (ER F (initOf allCells allToks)) ⊢ (|==> bigSep Finset.univ (G V) : sProp (MM F)) := by
  have hX (Φ : GSem nD τ sig → sProp (MM F)) : bigSep allCells Φ = bigSep Finset.univ fun c : Dev nD => bigSep Finset.univ fun k : CI => Φ (kcell (c, k)) := by
    unfold allCells; rw [bigSep_map, bigSep_univ_prod]; rfl
  have hT : bigSep allToks (fun x => (dutyTok (ER F) x.1 x.2.1 x.2.2 : sProp (MM F))) = bigSep Finset.univ fun c : Dev nD => toks c := by
    unfold allToks; rw [bigSep_map, bigSep_univ_prod]
    exact bigSep_congr fun c _ => by unfold toks; rw [over_rows]; rfl
  have hG : bigSep Finset.univ (G V) = iprop((bigSep Finset.univ fun c : Dev nD => bigSep Finset.univ fun k : CI => roundState (ER F) (sch V) (kcell (c, k)) 0)
      ∗ ((bigSep Finset.univ fun c : Dev nD => bigSep Finset.univ fun k : CI => atPos (ER F) (kcell (c, k)) 0 ∅ 0)
        ∗ (bigSep Finset.univ fun c : Dev nD => bigSep Finset.univ fun k : CI => reached (ER F) (kcell (c, k)) 0))
      ∗ bigSep Finset.univ fun c : Dev nD => toks c) := by
    unfold G; simp only [bigSep_sep']
  rw [hG]
  iintro HX
  imod (Rounds.fund (ER F) (sch V) allCells allToks) $$ HX with ⟨Hst, Hr, Hat, Htok⟩
  imodintro
  ihave Hst' := (Entails.of_eq (hX fun g => roundState (ER F) (sch V) g 0)) $$ Hst
  ihave Hat' := (Entails.of_eq (hX fun g => atPos (ER F) g 0 ∅ 0)) $$ Hat
  ihave Hr' := (Entails.of_eq (hX fun g => reached (ER F) g 0)) $$ Hr
  ihave Htok' := (Entails.of_eq hT) $$ Htok
  isplitl [Hst']; · iexact Hst'
  isplitl [Hat' Hr']
  · isplitl [Hat'] <;> iassumption
  iexact Htok'

/-! ## The semaphores -/

omit [FloatOps F] in
/-- The barrier's is the only semaphore that is not the kernel's own. -/
theorem unscopedSems0_eq : (unscopedSems0 c : sProp (MM F)) = semVal (barCell c) 0 := by
  unfold unscopedSems0; rw [bigSep_eq_bigSepL_of_eq [SemLoc.reg barS] (by decide +kernel) (by decide)]; rfl

omit [FloatOps F] in
/-- The semaphores' counters, at zero. -/
theorem sems0_eq : iprop(Pipeline.ownSems0 (Ix := Unit) (Name := ℕ) (U := UU) (Lvl := ℕ) (Val := Elt F) (τ := τ) osem c ∗ unscopedSems0 c)
    ⊢ (bigSep Finset.univ fun k : CI => semVal (kcell (c, k)) 0 : sProp (MM F)) := by
  rw [unscopedSems0_eq, over_sems]
  exact sep_comm.1

/-- A device's invariants are established. -/
theorem core_alloc : iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k : CI => iprop(∃ κ : ℕ, cellInv (ER F) (sch V) κ (kcell (c, k))))
          ∗ (bigSep Finset.univ fun k : CI => iprop(atPos (ER F) (kcell (c, k)) 0 ∅ 0 ∗ reached (ER F) (kcell (c, k)) 0)) ∗ toks c) := by
  unfold G
  have hI : iprop((bigSep Finset.univ fun k : CI => semVal (kcell (c, k)) 0) ∗ bigSep Finset.univ fun k : CI => roundState (ER F) (sch V) (kcell (c, k)) 0)
      ⊢ (|={Set.univ}=> bigSep Finset.univ fun k : CI => iprop(∃ κ : ℕ, cellInv (ER F) (sch V) κ (kcell (c, k))) : sProp (MM F)) := by
    rw [← bigSep_sep']
    exact (bigSep_mono fun k _ => (Rounds.body_intro (ER F) (sch V) (kcell (c, k))).trans inv_alloc).trans (bigSep_fupd _ _)
  iintro ⟨Hos, Hus, Hst, Hat, Htok⟩
  ihave Hv := (sems0_eq (F := F) c) $$ [Hos Hus]
  · isplitl [Hos] <;> iassumption
  imod hI $$ [Hv Hst] with Hinv
  · isplitl [Hv] <;> iassumption
  imodintro
  isplitl [Hinv]; · iexact Hinv
  isplitl [Hat]; · iexact Hat
  iexact Htok

/-! ## The dealing -/

omit [FloatOps F] in
/-- Each token goes to the device that pays with it. -/
theorem toks_dealt : (bigSep Finset.univ fun c : Dev nD => (toks c : sProp (MM F))) ⊢ bigSep Finset.univ fun c : Dev nD => payToks c := by
  have hB : (bigSep Finset.univ fun c : Dev nD => every fun d => (dutyTok (ER F) (barCell c) 0 d : sProp (MM F)))
      = bigSep Finset.univ fun c : Dev nD => every (barTok c) := by
    rw [← bigSep_univ_prod (fun x : Dev nD × Fin 16 => (dutyTok (ER F) (barCell x.1) 0 x.2 : sProp (MM F))),
      bigSep_univ_equiv cross (fun x : Dev nD × Fin 16 => (dutyTok (ER F) (barCell x.1) 0 x.2 : sProp (MM F))), bigSep_univ_prod]
    rfl
  have hR : (bigSep Finset.univ fun c : Dev nD => every fun d => (dmaTok c 3 d : sProp (MM F)))
      = bigSep Finset.univ fun c : Dev nD => every fun i => dmaTok (peer c i) 3 (rank c) := by
    rw [← bigSep_univ_prod (fun x : Dev nD × Fin 16 => (dmaTok x.1 3 x.2 : sProp (MM F))),
      bigSep_univ_equiv cross (fun x : Dev nD × Fin 16 => (dmaTok x.1 3 x.2 : sProp (MM F))), bigSep_univ_prod]
    rfl
  have hX : (bigSep Finset.univ fun c : Dev nD => (every (dmaTok c 1) : sProp (MM F))) = bigSep Finset.univ fun c : Dev nD => every (dmaTok (partner c) 1) :=
    bigSep_univ_equiv swap (fun c : Dev nD => (every (dmaTok c 1) : sProp (MM F)))
  have h1 : ∀ c : Dev nD, iprop(every (barTok c) ∗ every (dmaTok c 0) ∗ every (dmaTok (partner c) 1) ∗ every (dmaTok c 2) ∗ every fun i => dmaTok (peer c i) 3 (rank c))
      ⊢ (payToks c : sProp (MM F)) := fun c => by
    have hx : iprop(every (dmaTok c 0) ∗ every (dmaTok (partner c) 1)) ⊢ (every (tokX c) : sProp (MM F)) := every_zip fun i => .rfl
    have hr : iprop(every (dmaTok c 2) ∗ every fun i => dmaTok (peer c i) 3 (rank c)) ⊢ (every (tokR c) : sProp (MM F)) := every_zip fun i => by
      unfold tokR
      split
      · iintro -; iempintro
      · exact .rfl
    unfold payToks
    iintro ⟨H, H0, H1, H2, H3⟩
    isplitl [H]; · iexact H
    isplitl [H0 H1]
    · iapply hx; isplitl [H0] <;> iassumption
    iapply hr; isplitl [H2] <;> iassumption
  have hE : (bigSep Finset.univ fun c : Dev nD => (toks c : sProp (MM F))) = bigSep Finset.univ fun c : Dev nD =>
      iprop(every (barTok c) ∗ every (dmaTok c 0) ∗ every (dmaTok (partner c) 1) ∗ every (dmaTok c 2) ∗ every fun i => dmaTok (peer c i) 3 (rank c)) := by
    unfold toks
    rw [bigSep_sep', bigSep_sep', bigSep_sep', bigSep_sep', bigSep_sep', bigSep_sep', bigSep_sep', bigSep_sep', hB, hR, hX]
  rw [hE]
  exact bigSep_mono fun c _ => h1 c

omit [FloatOps F] in
theorem bigSep_beside {I : Type} [DecidableEq I] {S : Finset I} {R : sProp (MM F)} [BI.Persistent R] {Φ Ψ : I → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- From every device's invariants, positions and tokens to what each device has once all is dealt. -/
theorem regroup :
    (bigSep Finset.univ fun c : Dev nD => iprop((bigSep Finset.univ fun k : CI => iprop(∃ κ : ℕ, cellInv (ER F) (sch V) κ (kcell (c, k))))
          ∗ (bigSep Finset.univ fun k : CI => iprop(atPos (ER F) (kcell (c, k)) 0 ∅ 0 ∗ reached (ER F) (kcell (c, k)) 0)) ∗ toks c) : sProp (MM F))
      ⊢ bigSep Finset.univ (G' V) := by
  rw [bigSep_sep', bigSep_sep', ← bigSep_univ_prod (fun ck : Dev nD × CI => iprop(∃ κ : ℕ, cellInv (ER F) (sch V) κ (kcell ck))),
    bigSep_congr (s := Finset.univ) (fun (c : Dev nD) _ => bigSep_sep' Finset.univ (fun k : CI => (atPos (ER F) (kcell (c, k)) 0 ∅ 0 : sProp (MM F))) (fun k => reached (ER F) (kcell (c, k)) 0)),
    bigSep_sep', ← bigSep_univ_prod (fun ck : Dev nD × CI => (reached (ER F) (kcell ck) 0 : sProp (MM F)))]
  have hO : iprop((bigSep Finset.univ fun c : Dev nD => bigSep Finset.univ fun k : CI => (atPos (ER F) (kcell (c, k)) 0 ∅ 0 : sProp (MM F))) ∗ bigSep Finset.univ fun c : Dev nD => payToks c)
      ⊢ bigSep Finset.univ (own (F := F)) := by
    rw [← bigSep_sep']; exact .rfl
  have hF : ∀ K, iprop(records V K ∗ bigSep Finset.univ (own (F := F))) ⊢ bigSep Finset.univ (G' V) := fun K =>
    bigSep_beside fun c _ => by
      unfold G'; iintro H; iexists K; iexact H
  iintro ⟨HI, ⟨Hat, #HR⟩, Htok⟩
  ihave HK := (BI.bigSep_exists_pi Finset.univ (fun (ck : Dev nD × CI) (κ : ℕ) => (cellInv (ER F) (sch V) κ (kcell ck) : sProp (MM F)))) $$ HI
  icases HK with ⟨%K, #HI⟩
  ihave Htk := (toks_dealt (F := F)) $$ Htok
  iapply (hF K)
  isplitr
  · unfold records; isplitl; · iexact HI
    iexact HR
  · iapply hO
    isplitl [Hat] <;> iassumption

/-- All devices at once. -/
theorem dealt : (bigSep Finset.univ fun c => iprop(Pipeline.ownSems0 (Ix := Unit) (Name := ℕ) (U := UU) (Lvl := ℕ) (Val := Elt F) (τ := τ) osem c ∗ unscopedSems0 c ∗ G V c) : sProp (MM F))
    ⊢ |={Set.univ}=> bigSep Finset.univ (G' V) :=
  ((bigSep_mono fun c _ => core_alloc V c).trans (bigSep_fupd _ _)).trans (BI.fupd_mono (regroup V))

end Cert.Combine

end
-- ==== Proof.Credits.lean ====
/-
What the devices owe when the program starts, added up over the devices: for each semaphore exactly the credit
its device waits for.
-/
module

public import proofs.«01_k».proof.Proof.Deal

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What is owed to device `c`'s semaphore `k` in all. -/
def amount (c : Dev nD) : CI → ℕ
  | none => 16
  | some (k, g) => if k = 1 then N else if k = 3 then (if g = rank c then 0 else N) else 0

theorem tally_kcell (a b : Dev nD × CI) (n : ℕ) : tallyAt (kcell a) () n (kcell b) () = if b = a then n else 0 := by
  rw [tallyAt_apply]
  by_cases h : b = a
  · subst h; rw [if_pos ⟨rfl, rfl⟩, if_pos rfl]
  · rw [if_neg fun hh => h (kcell_injective hh.1), if_neg h]

theorem sum_at {ι : Type} (s : Finset ι) (T : ι → CellTallies nD τ sig Unit) (g : GSem nD τ sig) : (∑ i ∈ s, T i) g () = ∑ i ∈ s, T i g () := by
  rw [Finset.sum_apply, Finsupp.finset_sum_apply]

theorem bar_at (d : Dev nD) (r : Fin 16) (b : Dev nD × CI) : oweBar d r (kcell b) () = if b = (peer d r, none) then 1 else 0 := tally_kcell (peer d r, none) b 1
theorem x_at (d : Dev nD) (g : Fin 16) (b : Dev nD × CI) : oweX d g (kcell b) () = if b = (partner d, some (1, g)) then N else 0 := tally_kcell (partner d, some (1, g)) b N
theorem r_at (d : Dev nD) (r : Fin 16) (b : Dev nD × CI) :
    oweR d r (kcell b) () = if rank d = rank (peer d r) then 0 else if b = (peer d r, some (3, rank d)) then N else 0 := by
  unfold oweR
  by_cases h : r = rank d
  · rw [if_pos h, if_pos (peer_eq_rank_iff.mpr h)]; rfl
  · rw [if_neg h, if_neg fun hh => h (peer_eq_rank_iff.mp hh)]; exact tally_kcell (peer d r, some (3, rank d)) b N

/-- What goes to the peers of all devices, by who receives it. -/
theorem sum_cross (f : Dev nD → Fin 16 → ℕ) : (∑ d : Dev nD, ∑ r : Fin 16, f (peer d r) (rank d)) = ∑ e : Dev nD, ∑ s : Fin 16, f e s := by
  rw [← Fintype.sum_prod_type' (fun d r => f (peer d r) (rank d)), ← Fintype.sum_prod_type' f]
  exact Equiv.sum_comp cross fun x : Dev nD × Fin 16 => f x.1 x.2
/-- What goes to the partners of all devices, by who receives it. -/
theorem sum_swap (f : Dev nD → ℕ) : (∑ d : Dev nD, f (partner d)) = ∑ e : Dev nD, f e := Equiv.sum_comp swap f

theorem owed_in_all (c : Dev nD) (k : CI) : (∑ d : Dev nD, owe₀ d (kcell (c, k)) ()) = amount c k := by
  have h1 : ∀ d : Dev nD, owe₀ d (kcell (c, k)) () = (∑ r, if (c, k) = (peer d r, none) then 1 else 0)
      + ((∑ g, if (c, k) = (partner d, some (1, g)) then N else 0)
        + ∑ r, if rank d = rank (peer d r) then 0 else if (c, k) = (peer d r, some (3, rank d)) then N else 0) := fun d => by
    unfold owe₀ oweXR
    rw [Pi.add_apply, Finsupp.add_apply, Pi.add_apply, Finsupp.add_apply, sum_at, sum_at, sum_at]
    simp only [bar_at, x_at, r_at]
  rw [Finset.sum_congr rfl fun d _ => h1 d, Finset.sum_add_distrib, Finset.sum_add_distrib,
    sum_cross (fun e _ => if (c, k) = (e, none) then 1 else 0), sum_swap (fun e => ∑ g, if (c, k) = (e, some (1, g)) then N else 0),
    sum_cross (fun e s => if s = rank e then 0 else if (c, k) = (e, some (3, s)) then N else 0)]
  have h2 : ∀ f : Dev nD → ℕ, (∀ e, e ≠ c → f e = 0) → (∑ e : Dev nD, f e) = f c := fun f hf => Finset.sum_eq_single c (fun e _ he => hf e he) (by simp)
  have h3 : ∀ e, e ≠ c → ∀ k' : CI, (c, k) ≠ (e, k') := fun e he k' h => he (Prod.mk.inj h).1.symm
  rw [h2 _ fun e he => Finset.sum_eq_zero fun _ _ => if_neg (h3 e he _), h2 _ fun e he => Finset.sum_eq_zero fun _ _ => if_neg (h3 e he _),
    h2 _ fun e he => Finset.sum_eq_zero fun _ _ => by rw [if_neg (h3 e he _), ite_self]]
  rcases k with _ | ⟨k, g⟩
  · simp [amount]
  · simp only [Prod.mk.injEq, true_and, Option.some.injEq, reduceCtorEq, and_false, if_false, Finset.sum_const_zero, zero_add, amount]
    by_cases hk : k = 1
    · subst hk; simp
    · by_cases hk3 : k = 3
      · subst hk3
        have h5 : ∀ s : Fin 16, s ≠ g → (if s = rank c then 0 else if (3 : Fin 4) = 3 ∧ g = s then N else 0) = 0 := fun s hs => by
          rw [if_neg (c := (3 : Fin 4) = 3 ∧ g = s) (fun h => hs h.2.symm), ite_self]
        rw [Finset.sum_eq_single g (fun s _ hs => h5 s hs) (by simp)]
        simp
      · simp [hk, hk3]

theorem launch_cell (c : Dev nD) (k : CI) : tallyOn (kcell (c, k)) (launchCredit (Pipeline.owing owe₀) 0 (kcell (c, k)))
    = (tallyAt (kcell (c, k)) () (amount c k) : CellTallies nD τ sig Unit) := by
  unfold tallyAt; refine congrArg _ (Finsupp.ext fun u => ?_); cases u
  rw [Pipeline.launchCredit_owing, Finsupp.single_eq_same, owed_in_all]

/-- The credit device `c` waits with. -/
def credits (c : Dev nD) : sProp (MM F) :=
  iprop(cred (tallyAt (barCell c) () 16) ∗ every (dmaCred c 1) ∗ every fun i => if i = rank c then iprop(emp) else dmaCred c 3 i)

omit [FloatOps F] in
/-- A device receives that credit. -/
theorem credits_intro (c : Dev nD) : (Pipeline.launchCred owe₀ c : sProp (MM F)) ⊢ credits c := by
  have hsub : (Pipeline.launchCred owe₀ c : sProp (MM F)) ⊢ bigSep Finset.univ fun k : CI => cred (tallyAt (kcell (c, k)) () (amount c k)) := by
    unfold Pipeline.launchCred
    refine (bigSep_subset (t := Finset.univ.map ⟨csem, csem_injective⟩) (Finset.subset_univ _)).trans ?_
    rw [bigSep_map]
    exact bigSep_mono fun k _ => Entails.of_eq (congrArg cred (launch_cell c k))
  refine hsub.trans ?_
  rw [over_sems, over_arrays]
  unfold credits
  have h3 : (every fun i => (cred (tallyAt (kcell (c, some (3, i))) () (amount c (some (3, i)))) : sProp (MM F)))
      ⊢ every fun i => if i = rank c then iprop(emp) else dmaCred c 3 i := every_mono fun i => by
    show (cred (tallyAt (dmaCell c 3 i) () (if i = rank c then 0 else N)) : sProp (MM F)) ⊢ _
    split
    · iintro -; iempintro
    · exact .rfl
  iintro ⟨HB, -, H1, -, H3⟩
  isplitl [HB]; · iexact HB
  isplitl [H1]; · iexact H1
  iapply h3; iexact H3

end Cert.Combine

end
-- ==== Proof.Run.lean ====
/-
The run of the whole program on all devices: it ends, with every device's block of the result computed, the arguments
unchanged and every semaphore at zero.
-/
module

public import proofs.«01_k».proof.Proof.Credits
public import proofs.«01_k».proof.Proof.Gen.KernelIdeal.Points
public import Idealize.ShloMosaic.Lib.Pipeline.CollectiveSegs

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- The state at the start: any memory, every semaphore at zero, any generator registers. -/
def startSt : MemSt nD τ sig (Elt F) := ⟨m, fun _ => 0, ρ⟩

/-- The devices' blocks of the arguments, as they lie in memory. -/
def argsOf : Args F where
  a c := (win0_0.blk (0 : Fin 1)).view.read (Elt F) (m ((c : Thread nD τ).loc main_arg0))
  b c := (win0_1.blk (0 : Fin 1)).view.read (Elt F) (m ((c : Thread nD τ).loc main_arg1))

/-! ## What a device holds before and after its kernel -/

omit [FloatOps F] in
theorem owns_whole_eq (c : Dev nD) (b : Ref sig .tc) (X : b.ty.Contents (Elt F)) :
    (owns (c : Thread nD τ) (Memref.whole b) fullShare X : sProp (MM F)) = iprop(∃ f : Buf (Elt F) ((c : Thread nD τ).loc b), ⌜f = X⌝ ∗ ((c : Thread nD τ).loc b) ↦{fullShare} f) := by
  unfold owns; simp only [Memref.view_whole, View.read_whole, View.set_whole]

/-- A scratch array, at some contents. -/
abbrev scrAny (c : Dev nD) (b : Ref sig .tc) : sProp (MM F) :=
  iprop(∃ f : Buf (Elt F) ((c : Thread nD τ).loc b), ((c : Thread nD τ).loc b) ↦{fullShare} f)

/-- The five scratch arrays. -/
def scratch (c : Dev nD) : sProp (MM F) :=
  iprop(scrAny c cc0_scratch0 ∗ scrAny c cc0_scratch1 ∗ scrAny c cc0_scratch2 ∗ scrAny c cc0_scratch3 ∗ scrAny c cc0_scratch4)

/-- What a device's kernel starts from besides its buffers: the invariants, its positions, tokens and credit. -/
def ready (c : Dev nD) : sProp (MM F) := iprop(∃ K, Pers (argsOf m) K ∗ own c ∗ credits c)

def Φ₀ (c : Dev nD) : sProp (MM F) := iprop(ready m c ∗ scratch c)
/-- What it ends with besides its result: every semaphore at zero. -/
def Φ₁ (c : Dev nD) : sProp (MM F) :=
  iprop((semVal (barCell c) 0 ∗ every (dmaEnd c 0) ∗ every (dmaEnd c 1) ∗ every (dmaEnd c 2) ∗ every (dmaEnd c 3)) ∗ scratch c)

def dats (_ : Fin 1) (c : Dev nD) : Pipeline.Dat τ (Elt F) Unit ℕ UU ℕ cfg0 c where
  A w := (startSt m ρ).mem ((cfg0.win w).arr.view.loc (c : Thread nD τ))
  after w _ := match w with
    | ⟨0, _⟩ => (argsOf m).a c
    | ⟨1, _⟩ => (argsOf m).b c
    | ⟨2, _⟩ => outV (argsOf m) c
  Φ t := match t with
    | ⟨0, _⟩ => Φ₀ m c
    | ⟨_ + 1, _⟩ => Φ₁ c
  q _ := fullShare
  owed t := match t with
    | ⟨0, _⟩ => owe₀ c
    | ⟨_ + 1, _⟩ => 0

/-- Before: the scratch arrays as their slots. -/
theorem scratch_slots (c : Dev nD) : (scratch c : sProp (MM F)) ⊢ iprop(anyAll c b0M ∗ anyAll c b1M ∗ anyAll c xM ∗ anyAll c cM ∗ anyAll c rM) := by
  have h (M : Sixteen) (b : Ref sig .tc) (hb : (scrAny c b : sProp (MM F)) ⊢ iprop(∃ X : Vec F S16x32x1024 .bf16, owns (c : Thread nD τ) M fullShare X)) :
      (scrAny c b : sProp (MM F)) ⊢ anyAll c M := hb.trans (slots_of_whole c M)
  have w (b : Ref sig .tc) : (scrAny c b : sProp (MM F)) ⊢ iprop(∃ X : b.ty.Contents (Elt F), owns (c : Thread nD τ) (Memref.whole b) fullShare X) := by
    iintro ⟨%f, H⟩
    iexists f
    rw [owns_whole_eq]
    iexists f; isplitr; · (ipureintro; rfl)
    iexact H
  unfold scratch
  exact BI.sep_mono (h _ _ (w cc0_scratch0)) (BI.sep_mono (h _ _ (w cc0_scratch1)) (BI.sep_mono (h _ _ (w cc0_scratch2))
    (BI.sep_mono (h _ _ (w cc0_scratch3)) (h _ _ (w cc0_scratch4)))))

/-- After: the scratch arrays put together again. -/
theorem slots_scratch (c : Dev nD) : (iprop(anyAll c b0M ∗ anyAll c b1M ∗ anyAll c xM ∗ anyAll c cM ∗ ∃ X, owns (c : Thread nD τ) rM fullShare X) : sProp (MM F)) ⊢ scratch c := by
  have w (b : Ref sig .tc) : (iprop(∃ X : b.ty.Contents (Elt F), owns (c : Thread nD τ) (Memref.whole b) fullShare X) : sProp (MM F)) ⊢ scrAny c b := by
    simp only [owns_whole_eq]
    iintro ⟨%X, %f, -, H⟩
    iexists f; iexact H
  unfold scratch
  exact BI.sep_mono ((whole_of_any c b0M).trans (w cc0_scratch0)) (BI.sep_mono ((whole_of_any c b1M).trans (w cc0_scratch1))
    (BI.sep_mono ((whole_of_any c xM).trans (w cc0_scratch2)) (BI.sep_mono ((whole_of_any c cM).trans (w cc0_scratch3)) (w cc0_scratch4))))

omit [FloatOps F] in
/-- The positions and the credit, semaphore by semaphore. -/
theorem own_credits (c : Dev nD) : iprop(own c ∗ credits c) ⊢ (iprop((cred (tallyAt (barCell c) () 16) ∗ atPos (ER F) (barCell c) 0 ∅ 0)
    ∗ (every (barTok c) ∗ every (tokX c) ∗ every (tokR c)) ∗ every (dmaPos c 0)
    ∗ every (fun i => iprop(dmaCred c 1 i ∗ dmaPos c 1 i)) ∗ every (dmaPos c 2) ∗ every (awaitR c)) : sProp (MM F)) := by
  have hp : (bigSep Finset.univ fun k : CI => (atPos (ER F) (kcell (c, k)) 0 ∅ 0 : sProp (MM F)))
      = iprop(atPos (ER F) (barCell c) 0 ∅ 0 ∗ every (dmaPos c 0) ∗ every (dmaPos c 1) ∗ every (dmaPos c 2) ∗ every (dmaPos c 3)) := by
    rw [over_sems, over_arrays]; rfl
  have h1 : (iprop(every (dmaCred c 1) ∗ every (dmaPos c 1)) : sProp (MM F)) ⊢ every (fun i => iprop(dmaCred c 1 i ∗ dmaPos c 1 i)) := every_zip fun i => .rfl
  have h3 : (iprop((every fun i => if i = rank c then iprop(emp) else dmaCred c 3 i) ∗ every (dmaPos c 3)) : sProp (MM F)) ⊢ every (awaitR c) := every_zip fun i => by
    unfold awaitR
    by_cases h : i = rank c
    · rw [if_pos h, if_neg (show ¬ Used c 3 i from fun hh => hh ⟨by decide, h⟩)]; exact BI.emp_sep.1
    · rw [if_neg h, if_pos (show Used c 3 i from fun hh => h hh.2)]
  unfold own credits payToks
  rw [hp]
  iintro ⟨⟨⟨HB, H0, H1, H2, H3⟩, HT⟩, CB, C1, C3⟩
  isplitl [HB CB]; · isplitl [CB] <;> iassumption
  isplitl [HT]; · iexact HT
  isplitl [H0]; · iexact H0
  isplitl [H1 C1]
  · iapply h1; isplitl [C1] <;> iassumption
  isplitl [H2]; · iexact H2
  iapply h3; isplitl [C3] <;> iassumption

/-! ## The kernel -/

/-- A staging buffer, at contents `X`. -/
abbrev stg (c : Dev nD) (b : Ref sig .tc) (X : b.ty.Contents (Elt F)) : sProp (MM F) :=
  iprop(∃ f : Buf (Elt F) ((c : Thread nD τ).loc b), ⌜f = X⌝ ∗ ((c : Thread nD τ).loc b) ↦{fullShare} f)

def bodyPre (c : Dev nD) : sProp (MM F) :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp (MM F) :=
  iprop(Φ₁ c ∗ (dats m ρ 0 c).owesAt () t0_0.succ ∗ stg c cc0_stg0_0 ((argsOf m).a c) ∗ stg c cc0_stg1_0 ((argsOf m).b c)
    ∗ stg c cc0_stg2_0 (outV (argsOf m) c))

theorem pre_start (c : Dev nD) : bodyPre m ρ c ⊢ iprop(∃ K, Start (argsOf m) K c) := by
  have ha : ∀ d, (dats m ρ 0 c).before (0 : Fin 3) t0_0 d = (argsOf m).a c := fun d => by
    unfold Pipeline.Dat.before; rw [if_pos (fetch0_0 t0_0)]; rfl
  have hb : ∀ d, (dats m ρ 0 c).before (1 : Fin 3) t0_0 d = (argsOf m).b c := fun d => by
    unfold Pipeline.Dat.before; rw [if_pos (fetch0_1 t0_0)]; rfl
  have hO : ((dats m ρ 0 c).owesAt () t0_0.castSucc : sProp (MM F)) ⊢ Owe c (owe₀ c) := by
    unfold Pipeline.Dat.owesAt Pipeline.owesWithin Owe
    iintro ⟨%W, -, H⟩
    iexists W; iexact H
  have hA : (iprop(∃ d, stg c cc0_stg0_0 ((dats m ρ 0 c).before (0 : Fin 3) t0_0 d)) : sProp (MM F)) ⊢ owns (c : Thread nD τ) aM fullShare ((argsOf m).a c) := by
    simp only [ha]; rw [owns_whole_eq]
    iintro ⟨%d, H⟩; iexact H
  have hB : (iprop(∃ d, stg c cc0_stg1_0 ((dats m ρ 0 c).before (1 : Fin 3) t0_0 d)) : sProp (MM F)) ⊢ owns (c : Thread nD τ) bM fullShare ((argsOf m).b c) := by
    simp only [hb]; rw [owns_whole_eq]
    iintro ⟨%d, H⟩; iexact H
  have hC : (iprop(∃ d, stg c cc0_stg2_0 ((dats m ρ 0 c).before (2 : Fin 3) t0_0 d)) : sProp (MM F)) ⊢ outAny c := by
    unfold outAny
    iintro ⟨%d, H⟩; iexists _; rw [owns_whole_eq]; iexact H
  unfold bodyPre Φ₀ ready
  iintro ⟨⟨⟨%K, HP, Hown⟩, Hs⟩, HO, Ha, Hb, Hc⟩
  ihave ⟨HB, ⟨T, TX, TR⟩, H0, H1, H2, H3⟩ := (own_credits (F := F) c) $$ Hown
  ihave ⟨S0, S1, SX, SC, SR⟩ := (scratch_slots (F := F) c) $$ Hs
  ihave HO := hO $$ HO
  ihave Ha := hA $$ Ha
  ihave Hb := hB $$ Hb
  ihave Hc := hC $$ Hc
  iexists K
  unfold Start fresh Ins
  isplitl [HP]; · iexact HP
  isplitl [HO]; · iexact HO
  isplitl [T]; · iexact T
  isplitl [S0]; · iexact S0
  isplitl [S1]; · iexact S1
  isplitl [SX]; · iexact SX
  isplitl [SR]; · iexact SR
  isplitl [HB TX TR H1 SC]
  · isplitl [HB]; · iexact HB
    isplitl [TX]; · iexact TX
    isplitl [TR]; · iexact TR
    isplitl [H1] <;> iassumption
  isplitl [H0]; · iexact H0
  isplitl [H2]; · iexact H2
  isplitl [H3]; · iexact H3
  isplitl [Hc]; · iexact Hc
  isplitl [Ha] <;> iassumption

theorem done_post (c : Dev nD) : Done (argsOf m) c ⊢ bodyPost m ρ c := by
  have hO : (Owe c 0 : sProp (MM F)) ⊢ (dats m ρ 0 c).owesAt () t0_0.succ := by
    unfold Pipeline.Dat.owesAt Pipeline.owesWithin Owe
    iintro ⟨%W, H⟩
    iexists W
    isplitr; · (ipureintro; exact fun _ _ => Or.inl trivial)
    iexact H
  unfold Done bodyPost Φ₁ Ins
  rw [owns_whole_eq, owns_whole_eq, owns_whole_eq]
  iintro ⟨HO, ⟨Ha, Hb⟩, Hc, HB, H0, H1, H2, H3, Hs⟩
  ihave Hs := (slots_scratch (F := F) c) $$ Hs
  ihave HO := hO $$ HO
  isplitl [HB H0 H1 H2 H3 Hs]
  · isplitr [Hs]
    · isplitl [HB]; · iexact HB
      isplitl [H0]; · iexact H0
      isplitl [H1]; · iexact H1
      isplitl [H2] <;> iassumption
    iexact Hs
  isplitl [HO]; · iexact HO
  isplitl [Ha]; · iexact Ha
  isplitl [Hb] <;> iassumption

set_option maxRecDepth 4000 in
/-- The kernel on device `c`. -/
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body aM (Memref.isWhole_whole _) bM (Memref.isWhole_whole _) oM (Memref.isWhole_whole _)
      b0M (Memref.isWhole_whole _) b1M (Memref.isWhole_whole _) xM (Memref.isWhole_whole _) cM (Memref.isWhole_whole _) rM (Memref.isWhole_whole _)
      cc0_scratch5 cc0_scratch6 cc0_scratch7 cc0_scratch8) (fun _ => bodyPost m ρ c)
  refine (pre_start m ρ c).trans (exists_elim fun K => ?_)
  exact (body_runs (V := argsOf m) (K := K) (c := c)).trans (wp_mono _ _ _ fun _ => done_post m ρ c)

/-! ## The launch -/

theorem ownSemFacts : Pipeline.OwnSemFacts cfg0.spec osem := by decide +kernel

theorem share_eq (c : Dev nD) (w : Fin 3) : (dats m ρ 0 c).share w = fullShare := by unfold Pipeline.Dat.share; split <;> rfl

/-- Before the pipeline's own waits nothing above their level is passed over. -/
theorem waits (c : Dev nD) : (levAts L lv : sProp (MM F)) ⊢ Pipeline.cellsWaits cfgs (dats m ρ) () 0 c :=
  Pipeline.cellsWaits_intro cfgs (dats m ρ) () 0 c fun w s t =>
    mayWait 0 c _ (by
      unfold lv; rw [decode_eq_none (by fin_cases w <;> fin_cases s <;> (show ∀ k, csem k ≠ SemLoc.dma _; decide +kernel))])
      (by
        rcases t with ⟨_ | _, ht⟩
        · exact (Above.sum _ (oweBar_above c)).add ((oweXR_above c).weaken (by decide))
        · exact Above.zero 0)

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' (argsOf m) c)
      ⊢ |={Set.univ}=> iprop(ready m c ∗ emp) := by
  unfold G' ready
  iintro ⟨-, Hlev, Hcr, -, ⟨%K, HR, Hown⟩⟩
  ihave Hc := (credits_intro (F := F) c) $$ Hcr
  imodintro
  isplitl
  · iexists K
    isplitl [HR Hlev]
    · unfold Pers records
      icases HR with ⟨HI, HR⟩
      isplitl [HI]; · iexact HI
      isplitl [HR] <;> iassumption
    isplitl [Hown] <;> iassumption
  · iempintro

theorem phi0_intro (c : Dev nD) :
    iprop(ready m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  have hs : (Pipeline.ownSems0 (Ix := Unit) (Name := ℕ) (U := UU) (Lvl := ℕ) (Val := Elt F) (τ := τ) osem c : sProp (MM F))
      = iprop(every (dmaEnd c 0) ∗ every (dmaEnd c 1) ∗ every (dmaEnd c 2) ∗ every (dmaEnd c 3)) := by
    unfold Pipeline.ownSems0; rw [over_arrays]
  rw [show (dats m ρ 0 c).Φ (Fin.last cfg0.N) = Φ₁ c from rfl, scopedRest0_eq, hs, unscopedSems0_eq]
  unfold Φ₁ scratch
  iintro ⟨⟨HB, H⟩, Hr⟩
  isplitl [HB]; · iexact HB
  isplitl [H] <;> iassumption

/-! ## The run -/

/-- Every window's array is at its final contents. -/
def Final : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- From any memory with every semaphore at zero, every fair run of the program ends, each window's array at its final
contents and every semaphore at zero. -/
theorem run_main : θ_run defs (onTc (τ := τ) (main (F := F))) (startSt m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) (EP F) defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := owe₀) (howed₀ := fun _ => rfl) (howedN := fun _ => rfl)
    (L := L) (lv := lv) (hL := L_of_ne) (hwaits := waits m ρ)
    (G := G (argsOf m)) (G' := G' (argsOf m)) (u₀ := u₀)
    (hu₀ := by
      unfold u₀
      iintro Hu
      ihave ⟨HP, HX⟩ := (ownU_pair _ _) $$ Hu
      imod (fund (argsOf m)) $$ HX with HG
      imodintro
      isplitl [HP] <;> iassumption)
    (hglob := dealt (argsOf m))
    (hA := fun _ _ => rfl) (hpf := fun _ k => k.elim0)
    (X := ready m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays end as they began. -/
theorem final_a (c : Dev nD) : (dats m ρ 0 c).arrAt (0 : Fin 3) cfg0.N = m ((c : Thread nD τ).loc main_arg0) :=
  (dats (F := F) m ρ 0 c).arrAt_in (0 : Fin 3) rfl _
theorem final_b (c : Dev nD) : (dats m ρ 0 c).arrAt (1 : Fin 3) cfg0.N = m ((c : Thread nD τ).loc main_arg1) :=
  (dats (F := F) m ρ 0 c).arrAt_in (1 : Fin 3) rfl _

/-- The run, read at the arguments and the semaphores. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 3)).trans (final_a m ρ c), (h.1 c (1 : Fin 3)).trans (final_b m ρ c)⟩, h.2⟩) (run_main m ρ)

end Cert.Combine

end
-- ==== Proof.Result.lean ====
/-
The result's array after the run, and the arguments' blocks as whole arrays.
-/
module

public import proofs.«01_k».proof.Proof.Run
public import Idealize.ShloMosaic.Lib.Pipeline.ValueKit

@[expose] public section

noncomputable section

namespace Cert.Combine

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- The kernel works on the whole of its device's block of the first argument, -/
theorem argsOf_a (c : Dev nD) : (argsOf m).a c = m ((c : Thread nD τ).loc main_arg0) := by
  have e : win0_0.index t0_0 = ![0, 0] := by decide +kernel
  funext j
  show m ((c : Thread nD τ).loc main_arg0) (((cfg0.win (0 : Fin 3)).blk t0_0).view.emb j) = _
  refine congrArg (m ((c : Thread nD τ).loc main_arg0)) ?_
  blk_ext [e]

/-- of the second, -/
theorem argsOf_b (c : Dev nD) : (argsOf m).b c = m ((c : Thread nD τ).loc main_arg1) := by
  have e : win0_1.index t0_0 = ![0, 0] := by decide +kernel
  funext j
  show m ((c : Thread nD τ).loc main_arg1) (((cfg0.win (1 : Fin 3)).blk t0_0).view.emb j) = _
  refine congrArg (m ((c : Thread nD τ).loc main_arg1)) ?_
  blk_ext [e]

/-- and writes the whole of its device's block of the result. -/
theorem final_out (c : Dev nD) : (dats m ρ 0 c).arrAt (2 : Fin 3) cfg0.N = outV (argsOf m) c := by
  refine (dats m ρ 0 c).arrAt_eq_of_after_last (2 : Fin 3) t0_0 (by decide +kernel) _ fun j => ?_
  blk_simp
  rfl

/-- The run, read at the result, the arguments and the semaphores. -/
theorem run_result : θ_run defs (onTc (τ := τ) (main (F := F))) ⟨m, fun _ => 0, ρ⟩ (fun r =>
    ∀ c : Dev nD, r.2.mem ((c.tc : Thread nD τ).loc main_v1) = outV (argsOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c (2 : Fin 3)).trans (final_out m ρ c), (h.1 c (0 : Fin 3)).trans (final_a m ρ c),
    (h.1 c (1 : Fin 3)).trans (final_b m ρ c)⟩) (run_main m ρ)

end Cert.Combine

end
-- ==== Proof.Sum.lean ====
/-
The value of the exchange over the extended reals: device `c`'s result is its 32 rows of the whole product `A B`.

A device's partial product is a sum over its 512 columns of `A`; the sixteen blocks a device adds up hold two partial
products each; the 32 devices' columns are together the 16384 columns of `A`.
-/
module

public import proofs.«01_k».proof.Proof.Contents
public import proofs.«01_k».proof.Proof.Gen.ReferenceIdeal
public import Idealize.ShloMosaic.Lib.Pointwise
public import Idealize.ShloMosaic.Lib.Layout

@[expose] public section

noncomputable section

namespace Cert.Combine

open Cert.KernelIdeal Cert.KernelIdeal.Gen
open Idealize.ShloMosaic

variable (V : Args Ideal)

/-- A partial product at a row and a column. -/
theorem part_apply (d : Dev nD) (x : Fin 1024) (y : Fin 1024) :
    part V d (ix2 x y) = ∑ k : Fin 512, V.a d (ix2 x k) * V.b d (ix2 k y) := by
  unfold part k0_pay1
  pointwise

/-- A device's block, at a row and a column. -/
theorem rows_apply (v : FVec Ideal S1024x1024 .bf16) (d : Fin 32) (i : Fin 32) (y : Fin 1024) :
    rows v d (ix3 0 i y) = v (ix2 ⟨32 * d.val + i.val, by omega⟩ y) := by
  unfold rows
  pointwise

/-- Two partial products added up, at a row and a column of the block. -/
theorem combV_apply (c : Dev nD) (g : Fin 16) (i : Fin 32) (y : Fin 1024) :
    combV V c g (ix3 0 i y) = rows (part V c) (pos (team c) g) (ix3 0 i y) + rows (part V (partner c)) (pos (team c) g) (ix3 0 i y) := by
  unfold combV k0_pay39 blkV
  pointwise

/-- A sum over the ranks of the two members of each pair is a sum over the devices. -/
theorem sum_pairs (s : Fin 2) (f : Dev nD → EReal) : ∑ r : Fin 16, (f (pos s r) + f (pos (1 - s) r)) = ∑ d : Dev nD, f d := by
  rw [← Equiv.sum_comp byPair f, Fintype.sum_prod_type, Fin.sum_univ_two, Finset.sum_add_distrib]
  fin_cases s
  · rfl
  · exact add_comm _ _

/-- A device's result: all partial products added up. -/
theorem outV_apply (c : Dev nD) (i : Fin 32) (y : Fin 1024) :
    outV V c (ix2 i y) = ∑ d : Dev nD, part V d (ix2 ⟨32 * c.val + i.val, by have := c.isLt; have : nD = 32 := rfl; omega⟩ y) := by
  rw [← sum_pairs (team c)]
  unfold outV k0_pay72 recvAll
  pointwise
  refine Finset.sum_congr rfl fun r _ => ?_
  unfold recvV
  have h := combV_apply V (pos (team c) r) (rank c) i y
  rw [team_pos, pos_team_rank, rows_apply, rows_apply] at h
  unfold partner at h
  rw [team_pos, rank_pos] at h
  exact h

/-! ## Against the whole product -/

variable (A : Cert.ReferenceIdeal.S1024x16384.Idx → EReal) (B : Cert.ReferenceIdeal.S16384x1024.Idx → EReal)

/-- The whole product at a row and a column, its sum cut into the devices' parts. -/
theorem whole_apply (x y : Fin 1024) :
    ∑ k : Fin 16384, A (ix2 x k) * B (ix2 k y)
      = ∑ d : Fin 32, ∑ k : Fin 512, A (ix2 x ⟨d.val * 512 + k.val, by omega⟩) * B (ix2 ⟨d.val * 512 + k.val, by omega⟩ y) :=
  Fin.sum_univ_tiles 32 512 rfl _

/-- The reference's result on whole arguments `A` and `B`. -/
def refV (A : FVec Ideal Cert.ReferenceIdeal.S1024x16384 .bf16) (B : FVec Ideal Cert.ReferenceIdeal.S16384x1024 .bf16) : FVec Ideal Cert.ReferenceIdeal.S1024x1024 .f32 :=
  extf .f32 (truncf .bf16 (Host.dotGeneral Cert.ReferenceIdeal.dot_S1024x16384_S16384x1024_S1024x1024_1_0_0_1_n_n none (extf .f32 A) (extf .f32 B)))

/-- The reference's result at a row and a column. -/
theorem refV_apply (x y : Fin 1024) : refV A B (ix2 x y) = ∑ k : Fin 16384, A (ix2 x k) * B (ix2 k y) := by
  unfold refV
  pointwise

/-- Two indices of a two-axis array with the same coordinates are the same. -/
theorem pair_ext {n n' : Nat} {i j : (⟨2, ![n, n']⟩ : Shape).Idx} (h₀ : (i 0).val = (j 0).val) (h₁ : (i 1).val = (j 1).val) : i = j :=
  funext fun a => Fin.ext (match a with | ⟨0, _⟩ => h₀ | ⟨1, _⟩ => h₁)

/-- With the columns of `A` and the rows of `B` dealt out in order, device `c`'s result is its rows of the reference's. -/
theorem outV_eq (hA : Layout.Tiles ⟨2, ![1024, 512]⟩ ⟨2, ![1024, 16384]⟩ 1 32) (hB : Layout.Tiles ⟨2, ![512, 1024]⟩ ⟨2, ![16384, 1024]⟩ 0 32)
    (hO : Layout.Tiles ⟨2, ![32, 1024]⟩ ⟨2, ![1024, 1024]⟩ 0 32)
    (ha : ∀ c, V.a c = Layout.block ⟨2, ![1024, 512]⟩ ⟨2, ![1024, 16384]⟩ 1 32 c A hA)
    (hb : ∀ c, V.b c = Layout.block ⟨2, ![512, 1024]⟩ ⟨2, ![16384, 1024]⟩ 0 32 c B hB) (c : Dev nD) :
    outV V c = Layout.block ⟨2, ![32, 1024]⟩ ⟨2, ![1024, 1024]⟩ 0 32 c (refV A B) hO := by
  have hd (d : Dev nD) : d.val < 32 := d.isLt
  have h (i : Fin 32) (y : Fin 1024) : outV V c (ix2 i y) = Layout.block ⟨2, ![32, 1024]⟩ ⟨2, ![1024, 1024]⟩ 0 32 c (refV A B) hO (ix2 i y) := by
    have hj : hO.idx c (ix2 i y) = ix2 ⟨32 * c.val + i.val, by have := hd c; omega⟩ y :=
      pair_ext (by show c.val * 32 + i.val = 32 * c.val + i.val; omega) rfl
    rw [Layout.block_apply, hj, outV_apply]
    refine Eq.trans ?_ (refV_apply A B _ y).symm
    rw [whole_apply]
    refine Finset.sum_congr rfl fun d _ => ?_
    rw [part_apply]
    refine Finset.sum_congr rfl fun k _ => ?_
    rw [ha, hb]
    exact congr (congrArg _ (congrArg A (pair_ext rfl rfl))) (congrArg B (pair_ext rfl rfl))
  funext j
  rw [eq_ix2 j]
  exact h (j 0) (j 1)

end Cert.Combine

end
-- ==== Proof.Same.lean ====
/-
The program as printed and its idealization are one program.
-/
module

public import proofs.«01_k».proof.Proof.Gen.Kernel
public import proofs.«01_k».proof.Proof.Gen.KernelIdeal

@[expose] public section

noncomputable section

namespace Cert.Combine

open Idealize.ShloMosaic

variable {F : FTy → Type} [FloatOps F]

/-- They run the same kernel. -/
theorem same_kernel : Cert.Kernel.defs₀ (F := F) = Cert.KernelIdeal.defs₀ (F := F) := by
  unfold Cert.Kernel.defs₀ Cert.KernelIdeal.defs₀
  refine congrArg Defs.onTc ?_
  funext ℓ x
  rcases ℓ with ⟨_ | n, h⟩
  · rfl
  · exact absurd h (Nat.not_lt.2 (Nat.le_add_left _ _))

theorem same_defs : Cert.Kernel.defs (F := F) = Cert.KernelIdeal.defs (F := F) := by
  unfold Cert.Kernel.defs Cert.KernelIdeal.defs
  exact congrArg (Pipeline.defs Cert.KernelIdeal.pcfgs) same_kernel

theorem same_main : Cert.Kernel.main (F := F) = Cert.KernelIdeal.main (F := F) := rfl

end Cert.Combine

end
-- ==== Proof.lean ====
/-
The claims put together: the frames of the program, of its idealization and of the reference, and that each device's
result is its rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Result
public import proofs.«01_k».proof.Proof.Sum
public import proofs.«01_k».proof.Proof.Same
public import Idealize.ShloMosaic.Adequacy
public import Idealize.ShloMosaic.Init

@[expose] public section

noncomputable section

namespace Cert.Proof

open Idealize.ShloMosaic Idealize.SL.Sem Cert.Kernel

/-- The program as printed, on 32 devices, ends, its arguments unchanged and every semaphore at zero. -/
theorem frame_kernel : Cert.quiescent_Kernel := by
  unfold Cert.quiescent_Kernel
  rw [Cert.Combine.same_defs, Cert.Combine.same_main]
  exact fun m ρ _ => Cert.Combine.run_frame (F := Bits) m ρ

/-- So does its idealization. -/
theorem frame_kernelIdeal : Cert.quiescent_KernelIdeal := fun m ρ _ => Cert.Combine.run_frame (F := Ideal) m ρ

/-- So does the reference, which has no semaphores. -/
theorem frame_referenceIdeal : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- Given the same whole arguments, each device's result is its rows of the reference's result. -/
theorem algebraic : Cert.algebraic_KernelIdeal_ReferenceIdeal := fun m g m' g' _ hm =>
  ⟨Cert.Combine.refV _ _,
    (θ_run (Cert.KernelIdeal.defs (F := Ideal)) _ _).mono (fun _ h c =>
      ⟨(h c).1.trans (Cert.Combine.outV_eq (Cert.Combine.argsOf m) _ _ _ _ _
        (fun d => (Cert.Combine.argsOf_a m d).trans (hm d).1) (fun d => (Cert.Combine.argsOf_b m d).trans (hm d).2) c), (h c).2⟩)
      (Cert.Combine.run_result (F := Ideal) m g),
    (θ_run (Cert.ReferenceIdeal.defs (F := Ideal)) _ _).mono (fun _ h => h 0) (Cert.ReferenceIdeal.Value.run (F := Ideal) m' g')⟩

/-- Everything that is claimed. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
